-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x1x64x64 : Shape := ⟨4, ![16, 1, 64, 64]⟩
abbrev S16x1x8x64 : Shape := ⟨4, ![16, 1, 8, 64]⟩
abbrev S16x32768x8x64 : Shape := ⟨4, ![16, 32768, 8, 64]⟩
abbrev S16x32768x8 : Shape := ⟨3, ![16, 32768, 8]⟩
abbrev S16 : Shape := ⟨1, ![16]⟩
abbrev S_ : Shape := ⟨0, ![]⟩

class Facts : Prop where
  bcast_S_S16x1x64x64 : S_.BroadcastsInDim S16x1x64x64 (![] : Fin 0 → Fin S16x1x64x64.rank)
  bcast_S_S16x1x8x64 : S_.BroadcastsInDim S16x1x8x64 (![] : Fin 0 → Fin S16x1x8x64.rank)
  bcast_S_S16x32768x8 : S_.BroadcastsInDim S16x32768x8 (![] : Fin 0 → Fin S16x32768x8.rank)
  bcast_S_S16 : S_.BroadcastsInDim S16 (![] : Fin 0 → Fin S16.rank)

variable [Facts]

def fn {F : FTy → Type} [FloatOps F] (main_arg0 : FVec F S16x1x64x64 .bf16) (main_arg1 : FVec F S16x1x8x64 .bf16) (main_arg2 : FVec F S16x1x8x64 .bf16) (main_arg3 : IVec S16x32768x8x64 8) (main_arg4 : FVec F S16x32768x8 .f32) (main_arg5 : IVec S16x32768x8x64 8) (main_arg6 : FVec F S16x32768x8 .f32) (main_arg7 : IVec S16 32) : IVec S16x1x64x64 1 × IVec S16x1x8x64 1 × IVec S16x32768x8 1 × IVec S16 1 :=
  let main_v0 : FVec F S16x1x64x64 .bf16 := Host.absf main_arg0
  let main_cst : FVec F S_ .bf16 := constant S_ .bf16 0x7F80#16
  let main_v1 : FVec F S16x1x64x64 .bf16 := broadcastInDim S16x1x64x64 ![] bcast_S_S16x1x64x64 main_cst
  let main_v2 : IVec S16x1x64x64 1 := cmpf .olt main_v0 main_v1
  let main_v3 : FVec F S16x1x8x64 .bf16 := Host.absf main_arg1
  let main_cst_0 : FVec F S_ .bf16 := constant S_ .bf16 0x7F80#16
  let main_v4 : FVec F S16x1x8x64 .bf16 := broadcastInDim S16x1x8x64 ![] bcast_S_S16x1x8x64 main_cst_0
  let main_v5 : IVec S16x1x8x64 1 := cmpf .olt main_v3 main_v4
  let main_v6 : FVec F S16x32768x8 .f32 := Host.absf main_arg4
  let main_cst_1 : FVec F S_ .f32 := constant S_ .f32 0x7F800000#32
  let main_v7 : FVec F S16x32768x8 .f32 := broadcastInDim S16x32768x8 ![] bcast_S_S16x32768x8 main_cst_1
  let main_v8 : IVec S16x32768x8 1 := cmpf .olt main_v6 main_v7
  let main_c : IVec S_ 32 := constantI S_ 32 2147481600#32
  let main_v9 : IVec S16 32 := broadcastInDim S16 ![] bcast_S_S16 main_c
  let main_v10 : IVec S16 1 := cmpi .sle main_arg7 main_v9
  (main_v2, main_v5, main_v8, main_v10)
-- ==== Kernel.lean ====
abbrev S16x1x64x64 : Shape := ⟨4, ![16, 1, 64, 64]⟩
abbrev S16x1x8x64 : Shape := ⟨4, ![16, 1, 8, 64]⟩
abbrev S16x32768x8x64 : Shape := ⟨4, ![16, 32768, 8, 64]⟩
abbrev S16x32768x8 : Shape := ⟨3, ![16, 32768, 8]⟩
abbrev S16 : Shape := ⟨1, ![16]⟩
abbrev S16x8x64x32768 : Shape := ⟨4, ![16, 8, 64, 32768]⟩
abbrev S16x512x32768 : Shape := ⟨3, ![16, 512, 32768]⟩
abbrev S16x8x32768 : Shape := ⟨3, ![16, 8, 32768]⟩
abbrev S16x64x64 : Shape := ⟨3, ![16, 64, 64]⟩
abbrev S16x8x64 : Shape := ⟨3, ![16, 8, 64]⟩
abbrev S1x64x64 : Shape := ⟨3, ![1, 64, 64]⟩
abbrev S1x8x64 : Shape := ⟨3, ![1, 8, 64]⟩
abbrev S1x512x2048 : Shape := ⟨3, ![1, 512, 2048]⟩
abbrev S1 : Shape := ⟨1, ![1]⟩
abbrev S1x8x2048 : Shape := ⟨3, ![1, 8, 2048]⟩
abbrev S2x32x256 : Shape := ⟨3, ![2, 32, 256]⟩
abbrev S64x128 : Shape := ⟨2, ![64, 128]⟩
abbrev S512x64 : Shape := ⟨2, ![512, 64]⟩
abbrev S32x256 : Shape := ⟨2, ![32, 256]⟩
abbrev S1x32x64 : Shape := ⟨3, ![1, 32, 64]⟩
abbrev S32x64 : Shape := ⟨2, ![32, 64]⟩
abbrev S1x32x256 : Shape := ⟨3, ![1, 32, 256]⟩
abbrev S64x64 : Shape := ⟨2, ![64, 64]⟩
abbrev S8x64 : Shape := ⟨2, ![8, 64]⟩
abbrev S8x1x64 : Shape := ⟨3, ![8, 1, 64]⟩
abbrev S8x8x64 : Shape := ⟨3, ![8, 8, 64]⟩
abbrev S64 : Shape := ⟨1, ![64]⟩
abbrev S64x1 : Shape := ⟨2, ![64, 1]⟩
abbrev S1x2048 : Shape := ⟨2, ![1, 2048]⟩
abbrev S1x256x2048 : Shape := ⟨3, ![1, 256, 2048]⟩
abbrev S256x2048 : Shape := ⟨2, ![256, 2048]⟩
abbrev S32x2048 : Shape := ⟨2, ![32, 2048]⟩
abbrev S1x1x2048 : Shape := ⟨3, ![1, 1, 2048]⟩
abbrev S8x2048 : Shape := ⟨2, ![8, 2048]⟩
abbrev S8x128 : Shape := ⟨2, ![8, 128]⟩
abbrev S8 : Shape := ⟨1, ![8]⟩
abbrev S8x1 : Shape := ⟨2, ![8, 1]⟩
abbrev S64x2048 : Shape := ⟨2, ![64, 2048]⟩
abbrev S128x64 : Shape := ⟨2, ![128, 64]⟩
abbrev S1x64 : Shape := ⟨2, ![1, 64]⟩
abbrev S512x2048 : Shape := ⟨2, ![512, 2048]⟩

abbrev nBuf : Space → Nat
  | .hbm => 18
  | .vmem => 20
  | .smem => 1
  | _ => 0

abbrev bufTy : (tb : Table) → Fin (tcTables nBuf tb) → BufTy
  | .hbm, ⟨0, _⟩ => ⟨S16x1x64x64, .bf16⟩
  | .hbm, ⟨1, _⟩ => ⟨S16x1x8x64, .bf16⟩
  | .hbm, ⟨2, _⟩ => ⟨S16x1x8x64, .bf16⟩
  | .hbm, ⟨3, _⟩ => ⟨S16x32768x8x64, .i8⟩
  | .hbm, ⟨4, _⟩ => ⟨S16x32768x8, .f32⟩
  | .hbm, ⟨5, _⟩ => ⟨S16x32768x8x64, .i8⟩
  | .hbm, ⟨6, _⟩ => ⟨S16x32768x8, .f32⟩
  | .hbm, ⟨7, _⟩ => ⟨S16x8x64x32768, .i8⟩
  | .hbm, ⟨8, _⟩ => ⟨S16x512x32768, .i8⟩
  | .hbm, ⟨9, _⟩ => ⟨S16x8x64x32768, .i8⟩
  | .hbm, ⟨10, _⟩ => ⟨S16x512x32768, .i8⟩
  | .hbm, ⟨11, _⟩ => ⟨S16x8x32768, .f32⟩
  | .hbm, ⟨12, _⟩ => ⟨S16x8x32768, .f32⟩
  | .hbm, ⟨13, _⟩ => ⟨S16x64x64, .bf16⟩
  | .hbm, ⟨14, _⟩ => ⟨S16x8x64, .bf16⟩
  | .hbm, ⟨15, _⟩ => ⟨S16x8x64, .bf16⟩
  | .hbm, ⟨16, _⟩ => ⟨S16x64x64, .bf16⟩
  | .hbm, ⟨17, _⟩ => ⟨S16x1x64x64, .bf16⟩
  | .local _ .vmem, ⟨0, _⟩ => ⟨S1x64x64, .bf16⟩
  | .local _ .vmem, ⟨1, _⟩ => ⟨S1x64x64, .bf16⟩
  | .local _ .vmem, ⟨2, _⟩ => ⟨S1x8x64, .bf16⟩
  | .local _ .vmem, ⟨3, _⟩ => ⟨S1x8x64, .bf16⟩
  | .local _ .vmem, ⟨4, _⟩ => ⟨S1x8x64, .bf16⟩
  | .local _ .vmem, ⟨5, _⟩ => ⟨S1x8x64, .bf16⟩
  | .local _ .vmem, ⟨6, _⟩ => ⟨S1x512x2048, .i8⟩
  | .local _ .vmem, ⟨7, _⟩ => ⟨S1x512x2048, .i8⟩
  | .local _ .vmem, ⟨8, _⟩ => ⟨S1x8x2048, .f32⟩
  | .local _ .vmem, ⟨9, _⟩ => ⟨S1x8x2048, .f32⟩
  | .local _ .vmem, ⟨10, _⟩ => ⟨S1x512x2048, .i8⟩
  | .local _ .vmem, ⟨11, _⟩ => ⟨S1x512x2048, .i8⟩
  | .local _ .vmem, ⟨12, _⟩ => ⟨S1x8x2048, .f32⟩
  | .local _ .vmem, ⟨13, _⟩ => ⟨S1x8x2048, .f32⟩
  | .local _ .vmem, ⟨14, _⟩ => ⟨S1x64x64, .bf16⟩
  | .local _ .vmem, ⟨15, _⟩ => ⟨S1x64x64, .bf16⟩
  | .local _ .vmem, ⟨16, _⟩ => ⟨S2x32x256, .bf16⟩
  | .local _ .vmem, ⟨17, _⟩ => ⟨S64x128, .f32⟩
  | .local _ .vmem, ⟨18, _⟩ => ⟨S64x128, .f32⟩
  | .local _ .vmem, ⟨19, _⟩ => ⟨S512x64, .f32⟩
  | .local _ .smem, ⟨0, _⟩ => ⟨S16, .i32⟩
  | _, _ => ⟨S16x1x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_5 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_6 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16x1x64x64 : Shape := ⟨4, ![16, 1, 64, 64]⟩
abbrev S16x1x8x64 : Shape := ⟨4, ![16, 1, 8, 64]⟩
abbrev S16x32768x8x64 : Shape := ⟨4, ![16, 32768, 8, 64]⟩
abbrev S16x32768x8 : Shape := ⟨3, ![16, 32768, 8]⟩
abbrev S16 : Shape := ⟨1, ![16]⟩
abbrev S16x1x8x8x64 : Shape := ⟨5, ![16, 1, 8, 8, 64]⟩
abbrev S16x8x32768x1x8 : Shape := ⟨5, ![16, 8, 32768, 1, 8]⟩
abbrev S16x1x8x8x32768 : Shape := ⟨5, ![16, 1, 8, 8, 32768]⟩
abbrev S16x8x32768 : Shape := ⟨3, ![16, 8, 32768]⟩
abbrev S16x1x8x1x32768 : Shape := ⟨5, ![16, 1, 8, 1, 32768]⟩
abbrev S_ : Shape := ⟨0, ![]⟩
abbrev S32768 : Shape := ⟨1, ![32768]⟩
abbrev S1x32768 : Shape := ⟨2, ![1, 32768]⟩
abbrev S16x1 : Shape := ⟨2, ![16, 1]⟩
abbrev S16x32768 : Shape := ⟨2, ![16, 32768]⟩
abbrev S16x1x1x1x32768 : Shape := ⟨5, ![16, 1, 1, 1, 32768]⟩
abbrev S16x8x1x1x8 : Shape := ⟨5, ![16, 8, 1, 1, 8]⟩
abbrev S16x1x8x8x1 : Shape := ⟨5, ![16, 1, 8, 8, 1]⟩
abbrev S1 : Shape := ⟨1, ![1]⟩
abbrev S1x1 : Shape := ⟨2, ![1, 1]⟩
abbrev S1x1x1x1x1 : Shape := ⟨5, ![1, 1, 1, 1, 1]⟩
abbrev S16x1x8x8 : Shape := ⟨4, ![16, 1, 8, 8]⟩
abbrev S16x8x64x1x8 : Shape := ⟨5, ![16, 8, 64, 1, 8]⟩

abbrev nBuf : Space → Nat
  | .hbm => 85
  | .vmem => 0
  | .smem => 0
  | _ => 0

abbrev bufTy : (tb : Table) → Fin (tcTables nBuf tb) → BufTy
  | .hbm, ⟨0, _⟩ => ⟨S16x1x64x64, .bf16⟩
  | .hbm, ⟨1, _⟩ => ⟨S16x1x8x64, .bf16⟩
  | .hbm, ⟨2, _⟩ => ⟨S16x1x8x64, .bf16⟩
  | .hbm, ⟨3, _⟩ => ⟨S16x32768x8x64, .i8⟩
  | .hbm, ⟨4, _⟩ => ⟨S16x32768x8, .f32⟩
  | .hbm, ⟨5, _⟩ => ⟨S16x32768x8x64, .i8⟩
  | .hbm, ⟨6, _⟩ => ⟨S16x32768x8, .f32⟩
  | .hbm, ⟨7, _⟩ => ⟨S16, .i32⟩
  | .hbm, ⟨8, _⟩ => ⟨S16x1x8x8x64, .bf16⟩
  | .hbm, ⟨9, _⟩ => ⟨S16x32768x8x64, .i32⟩
  | .hbm, ⟨10, _⟩ => ⟨S16x32768x8x64, .bf16⟩
  | .hbm, ⟨11, _⟩ => ⟨S16x8x32768x1x8, .f32⟩
  | .hbm, ⟨12, _⟩ => ⟨S16x1x8x8x32768, .f32⟩
  | .hbm, ⟨13, _⟩ => ⟨S16x8x32768, .f32⟩
  | .hbm, ⟨14, _⟩ => ⟨S16x1x8x1x32768, .f32⟩
  | .hbm, ⟨15, _⟩ => ⟨S_, .f32⟩
  | .hbm, ⟨16, _⟩ => ⟨S16x1x8x1x32768, .f32⟩
  | .hbm, ⟨17, _⟩ => ⟨S16x1x8x1x32768, .f32⟩
  | .hbm, ⟨18, _⟩ => ⟨S16x1x8x8x32768, .f32⟩
  | .hbm, ⟨19, _⟩ => ⟨S16x1x8x8x32768, .f32⟩
  | .hbm, ⟨20, _⟩ => ⟨S32768, .i32⟩
  | .hbm, ⟨21, _⟩ => ⟨S1x32768, .i32⟩
  | .hbm, ⟨22, _⟩ => ⟨S16x1, .i32⟩
  | .hbm, ⟨23, _⟩ => ⟨S16x32768, .i32⟩
  | .hbm, ⟨24, _⟩ => ⟨S16x32768, .i32⟩
  | .hbm, ⟨25, _⟩ => ⟨S16x32768, .i1⟩
  | .hbm, ⟨26, _⟩ => ⟨S16x1x1x1x32768, .i1⟩
  | .hbm, ⟨27, _⟩ => ⟨S_, .f32⟩
  | .hbm, ⟨28, _⟩ => ⟨S_, .f32⟩
  | .hbm, ⟨29, _⟩ => ⟨S16x1x8x8x32768, .i1⟩
  | .hbm, ⟨30, _⟩ => ⟨S16x1x8x8x32768, .f32⟩
  | .hbm, ⟨31, _⟩ => ⟨S16x1x8x8x32768, .f32⟩
  | .hbm, ⟨32, _⟩ => ⟨S16x8x1x1x8, .f32⟩
  | .hbm, ⟨33, _⟩ => ⟨S16x1x8x8x1, .f32⟩
  | .hbm, ⟨34, _⟩ => ⟨S_, .f32⟩
  | .hbm, ⟨35, _⟩ => ⟨S16x1x8x8x1, .f32⟩
  | .hbm, ⟨36, _⟩ => ⟨S16x1x8x8x1, .f32⟩
  | .hbm, ⟨37, _⟩ => ⟨S1, .i32⟩
  | .hbm, ⟨38, _⟩ => ⟨S1x1, .i32⟩
  | .hbm, ⟨39, _⟩ => ⟨S1, .i32⟩
  | .hbm, ⟨40, _⟩ => ⟨S1x1, .i32⟩
  | .hbm, ⟨41, _⟩ => ⟨S1x1, .i1⟩
  | .hbm, ⟨42, _⟩ => ⟨S1x1x1x1x1, .i1⟩
  | .hbm, ⟨43, _⟩ => ⟨S_, .f32⟩
  | .hbm, ⟨44, _⟩ => ⟨S_, .f32⟩
  | .hbm, ⟨45, _⟩ => ⟨S16x1x8x8x1, .i1⟩
  | .hbm, ⟨46, _⟩ => ⟨S16x1x8x8x1, .f32⟩
  | .hbm, ⟨47, _⟩ => ⟨S16x1x8x8x1, .f32⟩
  | .hbm, ⟨48, _⟩ => ⟨S_, .f32⟩
  | .hbm, ⟨49, _⟩ => ⟨S16x1x8x8, .f32⟩
  | .hbm, ⟨50, _⟩ => ⟨S16x1x8x8x1, .f32⟩
  | .hbm, ⟨51, _⟩ => ⟨S_, .f32⟩
  | .hbm, ⟨52, _⟩ => ⟨S16x1x8x8, .f32⟩
  | .hbm, ⟨53, _⟩ => ⟨S16x1x8x8x1, .f32⟩
  | .hbm, ⟨54, _⟩ => ⟨S16x1x8x8x1, .f32⟩
  | .hbm, ⟨55, _⟩ => ⟨S16x1x8x8x32768, .f32⟩
  | .hbm, ⟨56, _⟩ => ⟨S16x1x8x8x32768, .f32⟩
  | .hbm, ⟨57, _⟩ => ⟨S16x1x8x8x32768, .f32⟩
  | .hbm, ⟨58, _⟩ => ⟨S16x1x8x8x1, .f32⟩
  | .hbm, ⟨59, _⟩ => ⟨S16x1x8x8x1, .f32⟩
  | .hbm, ⟨60, _⟩ => ⟨S_, .f32⟩
  | .hbm, ⟨61, _⟩ => ⟨S16x1x8x8, .f32⟩
  | .hbm, ⟨62, _⟩ => ⟨S16x1x8x8x1, .f32⟩
  | .hbm, ⟨63, _⟩ => ⟨S_, .f32⟩
  | .hbm, ⟨64, _⟩ => ⟨S16x1x8x8, .f32⟩
  | .hbm, ⟨65, _⟩ => ⟨S16x1x8x8x1, .f32⟩
  | .hbm, ⟨66, _⟩ => ⟨S16x1x8x8x1, .f32⟩
  | .hbm, ⟨67, _⟩ => ⟨S16x1x8x8x32768, .f32⟩
  | .hbm, ⟨68, _⟩ => ⟨S16x1x8x8x32768, .f32⟩
  | .hbm, ⟨69, _⟩ => ⟨S16x1x8x8x1, .f32⟩
  | .hbm, ⟨70, _⟩ => ⟨S16x8x32768, .f32⟩
  | .hbm, ⟨71, _⟩ => ⟨S16x1x8x1x32768, .f32⟩
  | .hbm, ⟨72, _⟩ => ⟨S16x1x8x8x32768, .f32⟩
  | .hbm, ⟨73, _⟩ => ⟨S16x1x8x8x32768, .f32⟩
  | .hbm, ⟨74, _⟩ => ⟨S16x1x8x8x32768, .bf16⟩
  | .hbm, ⟨75, _⟩ => ⟨S16x32768x8x64, .i32⟩
  | .hbm, ⟨76, _⟩ => ⟨S16x32768x8x64, .bf16⟩
  | .hbm, ⟨77, _⟩ => ⟨S16x8x64x1x8, .f32⟩
  | .hbm, ⟨78, _⟩ => ⟨S16x1x8x8x64, .f32⟩
  | .hbm, ⟨79, _⟩ => ⟨S16x1x8x8x1, .bf16⟩
  | .hbm, ⟨80, _⟩ => ⟨S16x8x64x1x8, .f32⟩
  | .hbm, ⟨81, _⟩ => ⟨S16x1x8x8x64, .f32⟩
  | .hbm, ⟨82, _⟩ => ⟨S16x1x8x8x64, .f32⟩
  | .hbm, ⟨83, _⟩ => ⟨S16x1x64x64, .f32⟩
  | .hbm, ⟨84, _⟩ => ⟨S16x1x64x64, .bf16⟩
  | _, _ => ⟨S16x1x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.Chunk.lean ====
/- The index of the cache chunk that a grid point reads, as a function of the point and of the batch row's length. -/
module

public import Idealize.ShloMosaic.PureOps

@[expose] public section

noncomputable section

namespace Cert.Chunk

open Idealize.ShloMosaic

/-- The kernel's index map, as it computes it: `min c (max ((len + 2048 - 1) // 2048 - 1) 0)`, the quotient rounded down. -/
def chunkIx (a v : BitVec 32) : BitVec 32 :=
  let v2 : BitVec 32 := Scalar.addi v 2048#32
  let v3 : BitVec 32 := Scalar.subi v2 1#32
  let v4 : BitVec 32 := Scalar.divsi v3 2048#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 2048#32 0#32)) (Scalar.extui (Scalar.cmpi .slt 2048#32 0#32))
  let v15 : BitVec 1 := Scalar.cmpi .ne v9 v14
  let v17 : BitVec 1 := Scalar.cmpi .ne (Scalar.remsi v3 2048#32) 0#32
  let v20 : BitVec 32 := Scalar.select (Scalar.andi v15 v17) (Scalar.subi v4 1#32) v4
  Scalar.minsi a (Scalar.maxsi (Scalar.subi v20 1#32) 0#32)

/-- The clamp alone keeps the index within the sixteen chunks, for every length. -/
theorem minsi_maxsi_lt (a x : BitVec 32) (ha : a.toNat < 16) : (Scalar.minsi a (Scalar.maxsi x 0#32)).toNat < 16 := by
  have hx : 0 ≤ (IntOp.maxsi x 0#32).toInt := by
    unfold IntOp.maxsi
    split
    next h => rw [BitVec.slt_iff_toInt_lt] at h; simp at h; omega
    next h => simp
  show (IntOp.minsi a (IntOp.maxsi x 0#32)).toNat < 16
  generalize IntOp.maxsi x 0#32 = y at hx
  unfold IntOp.minsi
  split
  · exact ha
  next h =>
    rw [BitVec.slt_iff_toInt_lt] at h
    rw [BitVec.toInt_eq_toNat_cond] at h hx
    rw [BitVec.toInt_eq_toNat_cond] at h
    have := y.isLt
    split at hx <;> split at h <;> omega

/-- The chunk index is one of the sixteen chunks, for every length. -/
theorem chunkIx_lt (a v : BitVec 32) (ha : a.toNat < 16) : (chunkIx a v).toNat < 16 := minsi_maxsi_lt a _ ha

/-- Where the chunk starts below the length (and the length leaves room for the rounding up), the chunk read is the grid
    point's own. -/
theorem chunkIx_eq (a v : BitVec 32) (ha : a.toNat < 16) (hv : v.toInt ≤ 2147481600) (hav : (a.toNat : ℤ) * 2048 < v.toInt) :
    chunkIx a v = a := by
  have hvn : v.toInt = (v.toNat : ℤ) := by
    rw [BitVec.toInt_eq_toNat_cond] at hav hv ⊢
    have := v.isLt
    split at hav <;> split <;> omega
  have hv3 : ((v + 2048#32) - 1#32).toNat = v.toNat + 2047 := by
    rw [hvn] at hv hav
    simp only [BitVec.toNat_sub, BitVec.toNat_add, BitVec.toNat_ofNat]
    omega
  rw [hvn] at hv hav
  generalize hw : (v + 2048#32) - 1#32 = w at hv3
  have hwi : w.toInt = (v.toNat : ℤ) + 2047 := by
    rw [BitVec.toInt_eq_toNat_cond]; split <;> omega
  have hc : ¬ IntOp.SDivCorner w 2048#32 := by
    rintro (h | ⟨_, h⟩) <;> exact absurd h (by decide)
  have hpos : (0#32 : BitVec 32).slt w = true := by
    rw [BitVec.slt_iff_toInt_lt, hwi]; simp; omega
  have hneg : w.slt 0#32 = false := by
    rw [Bool.eq_false_iff, Ne, BitVec.slt_iff_toInt_lt, hwi]; simp; omega
  have hmsb : w.msb = false := by
    rw [BitVec.msb_eq_toInt, hwi]; simp; omega
  have hdiv : (IntOp.divsi .scalar w 2048#32).toNat = (v.toNat + 2047) / 2048 := by
    unfold IntOp.divsi
    rw [if_neg hc, BitVec.sdiv_eq, hmsb, show (2048#32 : BitVec 32).msb = false from by decide]
    simp only [BitVec.udiv_eq, BitVec.toNat_udiv, hv3, BitVec.toNat_ofNat]
  have hunf : chunkIx a v = IntOp.minsi a (IntOp.maxsi (IntOp.divsi .scalar w 2048#32 - 1#32) 0#32) := by
    simp only [chunkIx, Scalar.addi, Scalar.subi, Scalar.divsi, Scalar.cmpi, Scalar.extui, Scalar.remsi, Scalar.andi, Scalar.select,
      Scalar.minsi, Scalar.maxsi, IntOp.addi, IntOp.subi, hw]
    rw [if_neg]
    simp only [IntOp.cmpi, hpos, hneg, IntOp.andi]
    intro h
    have h2 : ((BitVec.ofBool ((BitVec.setWidth 32 (BitVec.ofBool true) - BitVec.setWidth 32 (BitVec.ofBool false)) != (BitVec.setWidth 32 (BitVec.ofBool ((0#32).slt 2048#32)) - BitVec.setWidth 32 (BitVec.ofBool ((2048#32).slt 0#32)))) : BitVec 1)) = 0#1 := by decide
    rw [h2] at h
    simp at h
  rw [hunf]
  generalize IntOp.divsi .scalar w 2048#32 = q at hdiv
  have hq : (q - 1#32).toNat = (v.toNat + 2047) / 2048 - 1 := by
    simp only [BitVec.toNat_sub, BitVec.toNat_ofNat]; omega
  have hq' : (q - 1#32).toInt = (((v.toNat + 2047) / 2048 - 1 : ℕ) : ℤ) := by
    rw [BitVec.toInt_eq_toNat_cond, hq]; split <;> omega
  have hmax : (IntOp.maxsi (q - 1#32) 0#32).toInt = (((v.toNat + 2047) / 2048 - 1 : ℕ) : ℤ) := by
    unfold IntOp.maxsi
    split
    · exact hq'
    next h =>
      rw [BitVec.slt_iff_toInt_lt, hq'] at h
      simp at h ⊢; omega
  have hai : a.toInt = (a.toNat : ℤ) := by
    rw [BitVec.toInt_eq_toNat_cond]; split <;> omega
  generalize IntOp.maxsi (q - 1#32) 0#32 = y at hmax
  unfold IntOp.minsi
  split
  · rfl
  next h =>
    rw [BitVec.slt_iff_toInt_lt, hai, hmax] at h
    have hle : y.toInt = a.toInt := by rw [hmax, hai]; omega
    exact BitVec.eq_of_toInt_eq hle

end Cert.Chunk

end
-- ==== Proof.OkKernel.lean ====
/- The pipeline's side condition on the prefetched lengths holds for every memory: the chunk index is clamped. -/
module

public import proofs.«01_k».proof.Proof.Gen.Kernel.Frame.Runs
public import proofs.«01_k».proof.Proof.Chunk

@[expose] public section

noncomputable section

namespace Cert.Kernel.Side

open Idealize.ShloMosaic Idealize.ShloMosaic.TcCoe Idealize.SL Idealize.SL.Sem
open Cert.Kernel Cert.Kernel.Gen Cert.Kernel.Facts

variable {F : FTy → Type} [FloatOps F]

/-- The length that the index maps read at a grid point. -/
abbrev len (pf : pre0.Contents (Elt F)) (i : grid0.Coords) : BitVec 32 :=
  pf.at 0 (Rect.unit (s := S16) (k0_off1 i) S1.size (k0_off1_inb i)) numel1_S1

/-- The index map of the key cache: the batch row, all rows, the clamped chunk. -/
theorem t3 (pf : pre0.Contents (Elt F)) (i : grid0.Coords) : cc0_transform_3 k0_off1_inb numel1_S1 pf i
    = ![(BitVec.ofNat 32 (i 0).val).toNat, 0, (Cert.Chunk.chunkIx (BitVec.ofNat 32 (i 1).val) (len pf i)).toNat] := rfl
/-- The index map of the key scales: the same block. -/
theorem t4 (pf : pre0.Contents (Elt F)) (i : grid0.Coords) : cc0_transform_4 k0_off1_inb numel1_S1 pf i
    = ![(BitVec.ofNat 32 (i 0).val).toNat, 0, (Cert.Chunk.chunkIx (BitVec.ofNat 32 (i 1).val) (len pf i)).toNat] := rfl
/-- The index map of the value cache: the same block. -/
theorem t5 (pf : pre0.Contents (Elt F)) (i : grid0.Coords) : cc0_transform_5 k0_off1_inb numel1_S1 pf i
    = ![(BitVec.ofNat 32 (i 0).val).toNat, 0, (Cert.Chunk.chunkIx (BitVec.ofNat 32 (i 1).val) (len pf i)).toNat] := rfl
/-- The index map of the value scales: the same block. -/
theorem t6 (pf : pre0.Contents (Elt F)) (i : grid0.Coords) : cc0_transform_6 k0_off1_inb numel1_S1 pf i
    = ![(BitVec.ofNat 32 (i 0).val).toNat, 0, (Cert.Chunk.chunkIx (BitVec.ofNat 32 (i 1).val) (len pf i)).toNat] := rfl

/-- The batch coordinate as a word is itself. -/
theorem c0 (i : grid0.Coords) : (BitVec.ofNat 32 (i 0).val).toNat < 16 := by
  have h : (i 0).val < 16 := (i 0).isLt
  rw [BitVec.toNat_ofNat]; omega
/-- The chunk coordinate as a word is below 16. -/
theorem c1 (i : grid0.Coords) : (BitVec.ofNat 32 (i 1).val).toNat < 16 := by
  have h : (i 1).val < 16 := (i 1).isLt
  rw [BitVec.toNat_ofNat]; omega

/-- A block of the key or value cache lies inside it. -/
theorem inbC (a b : ℕ) (ha : a < 16) (hb : b < 16) : ∀ x, ((![a, 0, b] : Fin 3 → ℕ) x + 1) * S1x512x2048.size x ≤ S16x512x32768.size x
  | ⟨0, _⟩ => by show (a + 1) * 1 ≤ 16; omega
  | ⟨1, _⟩ => by show (0 + 1) * 512 ≤ 512; omega
  | ⟨2, _⟩ => by show (b + 1) * 2048 ≤ 32768; omega
/-- A block of the scales lies inside them. -/
theorem inbS (a b : ℕ) (ha : a < 16) (hb : b < 16) : ∀ x, ((![a, 0, b] : Fin 3 → ℕ) x + 1) * S1x8x2048.size x ≤ S16x8x32768.size x
  | ⟨0, _⟩ => by show (a + 1) * 1 ≤ 16; omega
  | ⟨1, _⟩ => by show (0 + 1) * 8 ≤ 8; omega
  | ⟨2, _⟩ => by show (b + 1) * 2048 ≤ 32768; omega

/-- The bytes of a cache block make whole words, wherever it sits. -/
theorem wwC (a b : ℕ) (h : ∀ x, ((![a, 0, b] : Fin 3 → ℕ) x + 1) * S1x512x2048.size x ≤ S16x512x32768.size x) :
    (Rect.block (s := S16x512x32768) S1x512x2048.size ![a, 0, b] h).WholeWords (EltTy.packing .i8) :=
  .inr ⟨by decide, rfl, by show 0 * 512 = 0; rfl, rfl⟩

/-- The side condition holds whatever the lengths are. -/
theorem ok0_all (pf : pre0.Contents (Elt F)) : ok0 pf :=
  ⟨fun i => by rw [t3]; exact ⟨inbC _ _ (c0 i) (Cert.Chunk.chunkIx_lt _ _ (c1 i)), Or.inr (wwC _ _ _)⟩,
   fun i => by rw [t4]; exact ⟨inbS _ _ (c0 i) (Cert.Chunk.chunkIx_lt _ _ (c1 i)), Or.inl rfl⟩,
   fun i => by rw [t5]; exact ⟨inbC _ _ (c0 i) (Cert.Chunk.chunkIx_lt _ _ (c1 i)), Or.inr (wwC _ _ _)⟩,
   fun i => by rw [t6]; exact ⟨inbS _ _ (c0 i) (Cert.Chunk.chunkIx_lt _ _ (c1 i)), Or.inl rfl⟩⟩

/-- The pipeline runs at the lengths of any memory. -/
theorem ok (m : (ℓ : Loc nD τ sig) → Buf (Elt F) ℓ) : Ok m := ok0_all _

end Cert.Kernel.Side

end
-- ==== Proof.OkKernelIdeal.lean ====
/- The pipeline's side condition on the prefetched lengths holds for every memory: the chunk index is clamped. -/
module

public import proofs.«01_k».proof.Proof.Gen.KernelIdeal.Frame.Runs
public import proofs.«01_k».proof.Proof.Chunk

@[expose] public section

noncomputable section

namespace Cert.KernelIdeal.Side

open Idealize.ShloMosaic Idealize.ShloMosaic.TcCoe Idealize.SL Idealize.SL.Sem
open Cert.KernelIdeal Cert.KernelIdeal.Gen Cert.KernelIdeal.Facts

variable {F : FTy → Type} [FloatOps F]

/-- The length that the index maps read at a grid point. -/
abbrev len (pf : pre0.Contents (Elt F)) (i : grid0.Coords) : BitVec 32 :=
  pf.at 0 (Rect.unit (s := S16) (k0_off1 i) S1.size (k0_off1_inb i)) numel1_S1

/-- The index map of the key cache: the batch row, all rows, the clamped chunk. -/
theorem t3 (pf : pre0.Contents (Elt F)) (i : grid0.Coords) : cc0_transform_3 k0_off1_inb numel1_S1 pf i
    = ![(BitVec.ofNat 32 (i 0).val).toNat, 0, (Cert.Chunk.chunkIx (BitVec.ofNat 32 (i 1).val) (len pf i)).toNat] := rfl
/-- The index map of the key scales: the same block. -/
theorem t4 (pf : pre0.Contents (Elt F)) (i : grid0.Coords) : cc0_transform_4 k0_off1_inb numel1_S1 pf i
    = ![(BitVec.ofNat 32 (i 0).val).toNat, 0, (Cert.Chunk.chunkIx (BitVec.ofNat 32 (i 1).val) (len pf i)).toNat] := rfl
/-- The index map of the value cache: the same block. -/
theorem t5 (pf : pre0.Contents (Elt F)) (i : grid0.Coords) : cc0_transform_5 k0_off1_inb numel1_S1 pf i
    = ![(BitVec.ofNat 32 (i 0).val).toNat, 0, (Cert.Chunk.chunkIx (BitVec.ofNat 32 (i 1).val) (len pf i)).toNat] := rfl
/-- The index map of the value scales: the same block. -/
theorem t6 (pf : pre0.Contents (Elt F)) (i : grid0.Coords) : cc0_transform_6 k0_off1_inb numel1_S1 pf i
    = ![(BitVec.ofNat 32 (i 0).val).toNat, 0, (Cert.Chunk.chunkIx (BitVec.ofNat 32 (i 1).val) (len pf i)).toNat] := rfl

/-- The batch coordinate as a word is itself. -/
theorem c0 (i : grid0.Coords) : (BitVec.ofNat 32 (i 0).val).toNat < 16 := by
  have h : (i 0).val < 16 := (i 0).isLt
  rw [BitVec.toNat_ofNat]; omega
/-- The chunk coordinate as a word is below 16. -/
theorem c1 (i : grid0.Coords) : (BitVec.ofNat 32 (i 1).val).toNat < 16 := by
  have h : (i 1).val < 16 := (i 1).isLt
  rw [BitVec.toNat_ofNat]; omega

/-- A block of the key or value cache lies inside it. -/
theorem inbC (a b : ℕ) (ha : a < 16) (hb : b < 16) : ∀ x, ((![a, 0, b] : Fin 3 → ℕ) x + 1) * S1x512x2048.size x ≤ S16x512x32768.size x
  | ⟨0, _⟩ => by show (a + 1) * 1 ≤ 16; omega
  | ⟨1, _⟩ => by show (0 + 1) * 512 ≤ 512; omega
  | ⟨2, _⟩ => by show (b + 1) * 2048 ≤ 32768; omega
/-- A block of the scales lies inside them. -/
theorem inbS (a b : ℕ) (ha : a < 16) (hb : b < 16) : ∀ x, ((![a, 0, b] : Fin 3 → ℕ) x + 1) * S1x8x2048.size x ≤ S16x8x32768.size x
  | ⟨0, _⟩ => by show (a + 1) * 1 ≤ 16; omega
  | ⟨1, _⟩ => by show (0 + 1) * 8 ≤ 8; omega
  | ⟨2, _⟩ => by show (b + 1) * 2048 ≤ 32768; omega

/-- The bytes of a cache block make whole words, wherever it sits. -/
theorem wwC (a b : ℕ) (h : ∀ x, ((![a, 0, b] : Fin 3 → ℕ) x + 1) * S1x512x2048.size x ≤ S16x512x32768.size x) :
    (Rect.block (s := S16x512x32768) S1x512x2048.size ![a, 0, b] h).WholeWords (EltTy.packing .i8) :=
  .inr ⟨by decide, rfl, by show 0 * 512 = 0; rfl, rfl⟩

/-- The side condition holds whatever the lengths are. -/
theorem ok0_all (pf : pre0.Contents (Elt F)) : ok0 pf :=
  ⟨fun i => by rw [t3]; exact ⟨inbC _ _ (c0 i) (Cert.Chunk.chunkIx_lt _ _ (c1 i)), Or.inr (wwC _ _ _)⟩,
   fun i => by rw [t4]; exact ⟨inbS _ _ (c0 i) (Cert.Chunk.chunkIx_lt _ _ (c1 i)), Or.inl rfl⟩,
   fun i => by rw [t5]; exact ⟨inbC _ _ (c0 i) (Cert.Chunk.chunkIx_lt _ _ (c1 i)), Or.inr (wwC _ _ _)⟩,
   fun i => by rw [t6]; exact ⟨inbS _ _ (c0 i) (Cert.Chunk.chunkIx_lt _ _ (c1 i)), Or.inl rfl⟩⟩

/-- The pipeline runs at the lengths of any memory. -/
theorem ok (m : (ℓ : Loc nD τ sig) → Buf (Elt F) ℓ) : Ok m := ok0_all _

end Cert.KernelIdeal.Side

end
-- ==== Proof.Soft.lean ====
/- The online softmax over the extended reals: what a running maximum, a running sum and a running weighted sum hold
   after some chunks of scores, how one more chunk changes them, and what their quotient is at the end. -/
module

public import Idealize.ShloMosaic.Lib.Pipeline.ValueKit

@[expose] public section

noncomputable section

namespace Cert.Soft

open Idealize.ShloMosaic

/-! ### The exponential and finite scale factors -/

/-- An extended real that is neither infinity is a real. -/
theorem exists_coe {x : EReal} (h0 : x ≠ ⊥) (h1 : x ≠ ⊤) : ∃ r : ℝ, x = (r : EReal) :=
  ⟨x.toReal, (EReal.coe_toReal h1 h0).symm⟩

/-- The exponential of a difference from a real, when the other term is not `⊤`, is the coercion of a nonnegative real. -/
theorem exp_sub_coe {s m : EReal} (hs : s ≠ ⊤) (h0 : m ≠ ⊥) (h1 : m ≠ ⊤) :
    ∃ r : ℝ, 0 ≤ r ∧ Ideal.exp (s - m) = (r : EReal) := by
  obtain ⟨m, rfl⟩ := exists_coe h0 h1
  induction s with
  | bot => exact ⟨0, le_rfl, by rw [EReal.bot_sub]; simp⟩
  | top => exact absurd rfl hs
  | coe s => exact ⟨Real.exp (s - m), (Real.exp_pos _).le, by rw [← EReal.coe_sub, Ideal.exp_coe]⟩

/-- The exponential is nonnegative. -/
theorem exp_nonneg (x : EReal) : 0 ≤ Ideal.exp x := by
  induction x with
  | bot => simp
  | top => simp
  | coe x => simpa using (Real.exp_pos x).le

/-- The exponential of a real difference is positive and finite. -/
theorem exp_pos_coe {s m : EReal} (hb : s ≠ ⊥) (hs : s ≠ ⊤) (h0 : m ≠ ⊥) (h1 : m ≠ ⊤) :
    ∃ r : ℝ, 0 < r ∧ Ideal.exp (s - m) = (r : EReal) := by
  obtain ⟨m, rfl⟩ := exists_coe h0 h1
  obtain ⟨s, rfl⟩ := exists_coe hb hs
  exact ⟨Real.exp (s - m), Real.exp_pos _, by rw [← EReal.coe_sub, Ideal.exp_coe]⟩

/-- Changing the number subtracted before the exponential is a multiplication. -/
theorem exp_rescale {s m n : EReal} (hs : s ≠ ⊤) (hm0 : m ≠ ⊥) (hm1 : m ≠ ⊤) (hn0 : n ≠ ⊥) (hn1 : n ≠ ⊤) :
    Ideal.exp (s - m) * Ideal.exp (m - n) = Ideal.exp (s - n) := by
  obtain ⟨m, rfl⟩ := exists_coe hm0 hm1
  obtain ⟨n, rfl⟩ := exists_coe hn0 hn1
  induction s with
  | bot => rw [EReal.bot_sub, EReal.bot_sub]; simp
  | top => exact absurd rfl hs
  | coe s =>
    rw [← EReal.coe_sub, ← EReal.coe_sub, ← EReal.coe_sub]
    simp only [Ideal.exp_coe]
    rw [← EReal.coe_mul, ← Real.exp_add]
    congr 2; ring

/-- A finite nonnegative factor distributes over a finite sum of extended reals. -/
theorem sum_mul {ι : Type*} (t : Finset ι) (f : ι → EReal) (a : EReal) (h0 : 0 ≤ a) (h1 : a ≠ ⊤) :
    (∑ i ∈ t, f i) * a = ∑ i ∈ t, f i * a := by
  classical
  induction t using Finset.induction_on with
  | empty => simp
  | insert i t hi ih =>
    rw [Finset.sum_insert hi, Finset.sum_insert hi, EReal.right_distrib_of_nonneg_of_ne_top h0 h1, ih]

/-- A finite sum of nonnegative reals, in the extended reals, is one. -/
theorem sum_coe {ι : Type*} (t : Finset ι) (f : ι → EReal) (h : ∀ i ∈ t, ∃ r : ℝ, 0 ≤ r ∧ f i = (r : EReal)) :
    ∃ r : ℝ, 0 ≤ r ∧ ∑ i ∈ t, f i = (r : EReal) := by
  classical
  induction t using Finset.induction_on with
  | empty => exact ⟨0, le_rfl, by simp⟩
  | insert i t hi ih =>
    obtain ⟨a, ha, ea⟩ := h i (Finset.mem_insert_self i t)
    obtain ⟨b, hb, eb⟩ := ih fun j hj => h j (Finset.mem_insert_of_mem hj)
    exact ⟨a + b, add_nonneg ha hb, by rw [Finset.sum_insert hi, ea, eb, EReal.coe_add]⟩

/-! ### The running quantities -/

/-- The maximum of one chunk of scores. -/
def cmax (s : Fin 2048 → EReal) : EReal := Finset.univ.fold max ⊥ s

/-- The running maximum after `k` chunks, begun at `n`. -/
def M (n : EReal) (s : ℕ → Fin 2048 → EReal) : ℕ → EReal
  | 0 => n
  | k + 1 => max (M n s k) (cmax (s k))

/-- Position `128 t + l` of a chunk: the `t`-th element that lane `l` sums. -/
def pos (t : Fin 16) (l : Fin 128) : Fin 2048 := ⟨128 * t.val + l.val, by omega⟩

/-- Lane `l` of the running denominator after `k` chunks, relative to `m`. -/
def L (m : EReal) (s : ℕ → Fin 2048 → EReal) (k : ℕ) (l : Fin 128) : EReal :=
  ∑ j ∈ Finset.range k, ∑ t : Fin 16, Ideal.exp (s j (pos t l) - m)

/-- The running weighted sum after `k` chunks, relative to `m`: each value times its exponential and its scale. -/
def A (m : EReal) (s w v : ℕ → Fin 2048 → EReal) (k : ℕ) : EReal :=
  ∑ j ∈ Finset.range k, ∑ i : Fin 2048, v j i * (Ideal.exp (s j i - m) * w j i)

/-- A chunk whose scores are not `⊤` has a maximum that is not `⊤`. -/
theorem cmax_ne_top {s : Fin 2048 → EReal} (h : ∀ i, s i ≠ ⊤) : cmax s ≠ ⊤ := by
  unfold cmax
  refine ne_of_lt ((Finset.fold_max_lt _).2 ⟨bot_lt_top, fun i _ => lt_top_iff_ne_top.2 (h i)⟩)

/-- A chunk with no score in it has maximum `⊥`. -/
theorem cmax_bot {s : Fin 2048 → EReal} (h : ∀ i, s i = ⊥) : cmax s = ⊥ :=
  le_bot_iff.1 ((Finset.fold_max_le _).2 ⟨le_rfl, fun i _ => (h i).le⟩)

/-- A running maximum begun at a real stays a real: never `⊥`. -/
theorem M_ne_bot {n : EReal} {s : ℕ → Fin 2048 → EReal} (hn : n ≠ ⊥) (k : ℕ) : M n s k ≠ ⊥ := by
  induction k with
  | zero => exact hn
  | succ k ih => exact fun h => ih (le_bot_iff.1 (h ▸ le_max_left _ _))

/-- A running maximum of scores that are not `⊤` is not `⊤`. -/
theorem M_ne_top {n : EReal} {s : ℕ → Fin 2048 → EReal} (hn : n ≠ ⊤) (hs : ∀ j i, s j i ≠ ⊤) (k : ℕ) : M n s k ≠ ⊤ := by
  induction k with
  | zero => exact hn
  | succ k ih => exact ne_of_lt (max_lt (lt_top_iff_ne_top.2 ih) (lt_top_iff_ne_top.2 (cmax_ne_top (hs k))))

/-- A chunk with no score in it leaves the running maximum. -/
theorem M_skip {n : EReal} {s : ℕ → Fin 2048 → EReal} {k : ℕ} (h : ∀ i, s k i = ⊥) : M n s (k + 1) = M n s k := by
  show max _ _ = _
  rw [cmax_bot h]; exact max_eq_left bot_le

/-- One more chunk of the denominator: the old lane is rescaled to the new maximum, the chunk's exponentials are added. -/
theorem L_step {m m' : EReal} {s : ℕ → Fin 2048 → EReal} (hs : ∀ j i, s j i ≠ ⊤) (h0 : m ≠ ⊥) (h1 : m ≠ ⊤)
    (h0' : m' ≠ ⊥) (h1' : m' ≠ ⊤) (k : ℕ) (l : Fin 128) :
    L m' s (k + 1) l = L m s k l * Ideal.exp (m - m') + ∑ t : Fin 16, Ideal.exp (s k (pos t l) - m') := by
  obtain ⟨a, ha, ea⟩ := exp_sub_coe h1 h0' h1'
  have hb : (0 : EReal) ≤ Ideal.exp (m - m') := exp_nonneg _
  have ht : Ideal.exp (m - m') ≠ ⊤ := by rw [ea]; exact EReal.coe_ne_top _
  unfold L
  rw [Finset.sum_range_succ, sum_mul _ _ _ hb ht]
  refine congrArg (· + _) (Finset.sum_congr rfl fun j _ => ?_)
  rw [sum_mul _ _ _ hb ht]
  exact Finset.sum_congr rfl fun t _ => (exp_rescale (hs _ _) h0 h1 h0' h1').symm

/-- A chunk with no score in it leaves the denominator. -/
theorem L_skip {m : EReal} {s : ℕ → Fin 2048 → EReal} {k : ℕ} (h : ∀ i, s k i = ⊥) (l : Fin 128) : L m s (k + 1) l = L m s k l := by
  unfold L
  rw [Finset.sum_range_succ]
  simp [h, EReal.bot_sub]

/-- One more chunk of the weighted sum. -/
theorem A_step {m m' : EReal} {s w v : ℕ → Fin 2048 → EReal} (hs : ∀ j i, s j i ≠ ⊤) (h0 : m ≠ ⊥) (h1 : m ≠ ⊤)
    (h0' : m' ≠ ⊥) (h1' : m' ≠ ⊤) (k : ℕ) :
    A m' s w v (k + 1) = A m s w v k * Ideal.exp (m - m') + ∑ i : Fin 2048, v k i * (Ideal.exp (s k i - m') * w k i) := by
  obtain ⟨a, ha, ea⟩ := exp_sub_coe h1 h0' h1'
  have hb : (0 : EReal) ≤ Ideal.exp (m - m') := exp_nonneg _
  have ht : Ideal.exp (m - m') ≠ ⊤ := by rw [ea]; exact EReal.coe_ne_top _
  unfold A
  rw [Finset.sum_range_succ, sum_mul _ _ _ hb ht]
  refine congrArg (· + _) (Finset.sum_congr rfl fun j _ => ?_)
  rw [sum_mul _ _ _ hb ht]
  refine Finset.sum_congr rfl fun i _ => ?_
  rw [← exp_rescale (hs j i) h0 h1 h0' h1']
  ac_rfl

/-- A chunk with no score in it leaves the weighted sum. -/
theorem A_skip {m : EReal} {s w v : ℕ → Fin 2048 → EReal} {k : ℕ} (h : ∀ i, s k i = ⊥) : A m s w v (k + 1) = A m s w v k := by
  unfold A
  rw [Finset.sum_range_succ]
  simp [h, EReal.bot_sub]

/-! ### All sixteen chunks as one row of 32768 positions -/

/-- Position `i` of chunk `j`. -/
def at2 (j : Fin 16) (i : Fin 2048) : Fin 32768 := ⟨2048 * j.val + i.val, by omega⟩

/-- A row cut into chunks; past the sixteenth there is nothing, filled by `d`. -/
def cut (d : EReal) (S : Fin 32768 → EReal) (j : ℕ) (i : Fin 2048) : EReal := if h : j < 16 then S (at2 ⟨j, h⟩ i) else d

/-- A chunk below the sixteenth reads the row. -/
theorem cut_at (d : EReal) (S : Fin 32768 → EReal) {j : ℕ} (h : j < 16) (i : Fin 2048) : cut d S j i = S (at2 ⟨j, h⟩ i) := dif_pos h

/-- A sum over a row is the sum over its chunks. -/
theorem sum_cut (f : Fin 32768 → EReal) : ∑ p, f p = ∑ j : Fin 16, ∑ i : Fin 2048, f (at2 j i) := by
  rw [← Fintype.sum_prod_type']
  refine (Fintype.sum_equiv (finProdFinEquiv (m := 16) (n := 2048)) _ _ fun x => ?_).symm
  refine congrArg f (Fin.ext ?_)
  show 2048 * x.1.val + x.2.val = x.2.val + 2048 * x.1.val
  omega

/-- A sum over a chunk is the sum over the lanes of the lane's elements. -/
theorem sum_lanes (f : Fin 2048 → EReal) : ∑ l : Fin 128, ∑ t : Fin 16, f (pos t l) = ∑ i, f i := by
  rw [Finset.sum_comm, ← Fintype.sum_prod_type']
  refine Fintype.sum_equiv (finProdFinEquiv (m := 16) (n := 128)) _ _ fun x => ?_
  refine congrArg f (Fin.ext ?_)
  show 128 * x.1.val + x.2.val = x.2.val + 128 * x.1.val
  omega

/-- The lanes of the denominator after all chunks add up to the sum of all exponentials. -/
theorem sum_L (m : EReal) (S : Fin 32768 → EReal) : ∑ l, L m (cut ⊥ S) 16 l = ∑ p, Ideal.exp (S p - m) := by
  unfold L
  rw [Finset.sum_comm, sum_cut, Finset.sum_range]
  refine Finset.sum_congr rfl fun j _ => ?_
  rw [sum_lanes fun i => Ideal.exp (cut ⊥ S j i - m)]
  exact Finset.sum_congr rfl fun i _ => by rw [cut_at ⊥ S j.2]

/-- The weighted sum after all chunks is the sum over the row. -/
theorem A_all (m : EReal) (S W V : Fin 32768 → EReal) (d e : EReal) :
    A m (cut ⊥ S) (cut d W) (cut e V) 16 = ∑ p, V p * (Ideal.exp (S p - m) * W p) := by
  unfold A
  rw [sum_cut, Finset.sum_range]
  refine Finset.sum_congr rfl fun j _ => Finset.sum_congr rfl fun i _ => ?_
  rw [cut_at ⊥ S j.2, cut_at d W j.2, cut_at e V j.2]

/-- A running maximum is at most `x` exactly when its start and every chunk's scores are. -/
theorem M_le {n x : EReal} {s : ℕ → Fin 2048 → EReal} (k : ℕ) : M n s k ≤ x ↔ n ≤ x ∧ ∀ j < k, ∀ i, s j i ≤ x := by
  induction k with
  | zero => exact ⟨fun h => ⟨h, fun j hj => absurd hj (Nat.not_lt_zero j)⟩, fun h => h.1⟩
  | succ k ih =>
    show max _ _ ≤ x ↔ _
    rw [max_le_iff, ih, cmax, Finset.fold_max_le]
    constructor
    · rintro ⟨⟨a, b⟩, -, c⟩
      refine ⟨a, fun j hj i => ?_⟩
      rcases Nat.lt_succ_iff_lt_or_eq.1 hj with h | rfl
      · exact b j h i
      · exact c i (Finset.mem_univ i)
    · rintro ⟨a, b⟩
      exact ⟨⟨a, fun j hj => b j (by omega)⟩, bot_le, fun i _ => b k (by omega) i⟩

/-- The running maximum after all chunks is the larger of the row's maximum and the start. -/
theorem M_all (n : EReal) (S : Fin 32768 → EReal) : M n (cut ⊥ S) 16 = max (Finset.univ.fold max ⊥ S) n := by
  refine eq_of_forall_ge_iff fun x => ?_
  rw [M_le, max_le_iff, Finset.fold_max_le]
  constructor
  · rintro ⟨a, b⟩
    refine ⟨⟨bot_le, fun p _ => ?_⟩, a⟩
    have := b (p.val / 2048) (by omega) ⟨p.val % 2048, by omega⟩
    rw [cut_at ⊥ S (by omega)] at this
    refine le_of_eq_of_le (congrArg S (Fin.ext ?_)) this
    show p.val = 2048 * (p.val / 2048) + p.val % 2048
    omega
  · rintro ⟨⟨-, a⟩, b⟩
    exact ⟨b, fun j hj i => by rw [cut_at ⊥ S hj]; exact a _ (Finset.mem_univ _)⟩

/-! ### The quotient -/

/-- Dividing by a positive real is multiplying by one fixed positive real. -/
theorem div_pos {d : EReal} (h : ∃ r : ℝ, 0 < r ∧ d = (r : EReal)) :
    ∃ c : EReal, 0 ≤ c ∧ c ≠ ⊤ ∧ ∀ x, Ideal.div x d = x * c := by
  obtain ⟨r, hr, rfl⟩ := h
  refine ⟨((1 / r : ℝ) : EReal), ?_, EReal.coe_ne_top _, fun x => Ideal.div_coe hr.ne' x⟩
  exact EReal.coe_nonneg.2 (by positivity)

/-- The denominator: a sum of exponentials relative to a real and the exponential of a real is a positive real. -/
theorem denom_pos {m n : EReal} {S : Fin 32768 → EReal} (hS : ∀ p, S p ≠ ⊤) (hn0 : n ≠ ⊥) (hn1 : n ≠ ⊤)
    (h0 : m ≠ ⊥) (h1 : m ≠ ⊤) : ∃ r : ℝ, 0 < r ∧ (∑ p, Ideal.exp (S p - m)) + Ideal.exp (n - m) = (r : EReal) := by
  obtain ⟨a, ha, ea⟩ := sum_coe Finset.univ (fun p => Ideal.exp (S p - m)) fun p _ => exp_sub_coe (hS p) h0 h1
  obtain ⟨b, hb, eb⟩ := exp_pos_coe hn0 hn1 h0 h1
  exact ⟨a + b, by linarith, by rw [ea, eb, EReal.coe_add]⟩

/-- The weighted sum divided once is the sum of the values weighted by the divided exponentials. -/
theorem div_weighted {d m : EReal} (h : ∃ r : ℝ, 0 < r ∧ d = (r : EReal)) (S W V : Fin 32768 → EReal) :
    Ideal.div (∑ p, V p * (Ideal.exp (S p - m) * W p)) d = ∑ p, V p * (Ideal.div (Ideal.exp (S p - m)) d * W p) := by
  obtain ⟨c, h0, h1, hc⟩ := div_pos h
  simp only [hc]
  rw [sum_mul _ _ _ h0 h1]
  exact Finset.sum_congr rfl fun p _ => by ac_rfl

end Cert.Soft

end
-- ==== Proof.Vocab.lean ====
/- The kernel's body, one name per intermediate value: the masked scores of a head, its new maximum, its rescaling factor,
   its new denominator, its weights. The program writes each of these eight times, once per head, cut into different
   parts; every one of those texts is an instance of the names here. -/
module

public import proofs.«01_k».proof.Proof.Gen.KernelIdeal.Skeleton
public import proofs.«01_k».proof.Proof.Soft
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen Cert.KernelIdeal.Facts

/-- The products of four heads' queries with a chunk of keys. -/
abbrev dot (k : Vec Ideal S1x256x2048 .i8) (q : Vec Ideal S1x32x256 .bf16) : FVec Ideal S32x2048 .f32 := k0_pay13 k q

/-- One head's masked, scaled scores: rows `o 0` to `o 0 + 8` of the products. -/
def head (o : Fin 2 → ℕ) (ho : S32x2048.Slices o S8x2048) (w : IVec S1x2048 1) (d : FVec Ideal S32x2048 .f32) (k : Vec Ideal S1x1x2048 .f32) :
    FVec Ideal S8x2048 .f32 :=
  select (broadcastTo S8x2048 (shapeCast S1x2048 w shapeCasts_S1x2048_S1x2048) broadcasts_S1x2048_S8x2048)
    (mulf (extractStridedSlice S8x2048 o d ho)
      (broadcastTo S8x2048 (mulf (shapeCast S1x2048 k shapeCasts_S1x1x2048_S1x2048) (broadcast S1x2048 (Scalar.ofBits .f32 0x3E000000#32))) broadcasts_S1x2048_S8x2048))
    (broadcast S8x2048 (Scalar.ofBits .f32 0xFF800000#32))

/-- A head's new maximum. -/
abbrev newM (s : FVec Ideal S8x2048 .f32) (m : Vec Ideal S8x128 .f32) : FVec Ideal S8x128 .f32 := k0_pay27 s m
/-- A head's rescaling factor. -/
abbrev newA (s : FVec Ideal S8x2048 .f32) (m : Vec Ideal S8x128 .f32) : FVec Ideal S8x128 .f32 := k0_pay28 s m
/-- A head's new denominator. -/
abbrev newL (s : FVec Ideal S8x2048 .f32) (m l : Vec Ideal S8x128 .f32) : FVec Ideal S8x128 .f32 := k0_pay31 (k0_pay28 s m) (k0_pay29 s m) l
/-- A head's weights: the exponentials times the value scales. -/
abbrev newP (s : FVec Ideal S8x2048 .f32) (m : Vec Ideal S8x128 .f32) (w : Vec Ideal S1x1x2048 .f32) : FVec Ideal S8x2048 .bf16 := k0_pay32 (k0_pay29 s m) w
/-- Eight heads' weights, one under the other. -/
abbrev cat8 (p0 p1 p2 p3 p4 p5 p6 p7 : FVec Ideal S8x2048 .bf16) : FVec Ideal S64x2048 .bf16 :=
  concatenate S64x2048 0 [⟨S8x2048, p0⟩, ⟨S8x2048, p1⟩, ⟨S8x2048, p2⟩, ⟨S8x2048, p3⟩, ⟨S8x2048, p4⟩, ⟨S8x2048, p5⟩, ⟨S8x2048, p6⟩, ⟨S8x2048, p7⟩] concatenates_S8x2048_S8x2048_S8x2048_S8x2048_S8x2048_S8x2048_S8x2048_S8x2048_S64x2048_d0

section Scores
variable (a : BitVec 32) (n : Elt Ideal .i32) (w : IVec S1x2048 1) (x : Vec Ideal S1x256x2048 .i8) (q : Vec Ideal S1x32x256 .bf16)
  (d : FVec Ideal S32x2048 .f32) (k : Vec Ideal S1x1x2048 .f32)

/-- The program's texts of the scores, head 0. -/
theorem score0 : k0_pay14 a n x q k = head ![0, 0] slices_S32x2048_o0_0_S8x2048 (k0_pay12 (F := Ideal) a n) (dot x q) k := rfl
/-- Head 1. -/
theorem score1 : k0_pay15 a n x q k = head ![8, 0] slices_S32x2048_o8_0_S8x2048 (k0_pay12 (F := Ideal) a n) (dot x q) k := rfl
/-- Head 2. -/
theorem score2 : k0_pay17 w d (k0_pay16 k) = head ![16, 0] slices_S32x2048_o16_0_S8x2048 w d k := rfl
/-- Head 3. -/
theorem score3 : k0_pay18 w d k = head ![24, 0] slices_S32x2048_o24_0_S8x2048 w d k := rfl
/-- Head 4. -/
theorem score4 : k0_pay20 w x q k = head ![0, 0] slices_S32x2048_o0_0_S8x2048 w (dot x q) k := rfl
/-- Head 5. -/
theorem score5 : k0_pay23 w d (k0_pay21 k) (k0_pay22 (F := Ideal)) = head ![8, 0] slices_S32x2048_o8_0_S8x2048 w d k := rfl
/-- Head 6. -/
theorem score6 : k0_pay24 w d k = head ![16, 0] slices_S32x2048_o16_0_S8x2048 w d k := rfl
/-- Head 7. -/
theorem score7 : k0_pay25 w d k = head ![24, 0] slices_S32x2048_o24_0_S8x2048 w d k := rfl
/-- The second four heads' products are the first four's text. -/
theorem dot1 : k0_pay19 x q = dot x q := rfl
end Scores

section Steps
variable (s : FVec Ideal S8x2048 .f32) (m l : Vec Ideal S8x128 .f32) (w : Vec Ideal S1x1x2048 .f32)

/-- The program's texts of the new maximum. -/
theorem max1 : k0_pay35 m (k0_pay33 s) = newM s m := rfl
/-- The same for head 2. -/
theorem max2 : k0_pay41 s m = newM s m := rfl
/-- The same for head 3. -/
theorem max3 : k0_pay50 s m = newM s m := rfl
/-- The same for head 4. -/
theorem max4 : k0_pay58 s m = newM s m := rfl
/-- The same for head 5. -/
theorem max5 : k0_pay67 s m = newM s m := rfl
/-- The same for head 6. -/
theorem max6 : k0_pay73 s m = newM s m := rfl
/-- The same for head 7. -/
theorem max7 : k0_pay80 s m = newM s m := rfl

/-- The program's texts of the rescaling factor. -/
theorem fac1 : k0_pay36 m (k0_pay33 s) = newA s m := rfl
/-- The same for head 2. -/
theorem fac2 : k0_pay42 s m = newA s m := rfl
/-- The same for head 3. -/
theorem fac3 : k0_pay51 s m = newA s m := rfl
/-- The same for head 4. -/
theorem fac4 : k0_pay59 s m = newA s m := rfl
/-- The same for head 5. -/
theorem fac5 : k0_pay68 m (k0_pay66 s m) = newA s m := rfl
/-- The same for head 6. -/
theorem fac6 : k0_pay74 s m = newA s m := rfl
/-- The same for head 7. -/
theorem fac7 : k0_pay81 s m = newA s m := rfl

/-- The program's texts of the new denominator. -/
theorem den1 : k0_pay38 s m (k0_pay33 s) l = newL s m l := rfl
/-- The same for head 2. -/
theorem den2 : k0_pay47 (k0_pay43 s m) (k0_pay44 s m l) (k0_pay45 s m) (k0_pay46 s m) = newL s m l := rfl
/-- The same for head 3. -/
theorem den3 : k0_pay55 (k0_pay52 s m) (k0_pay53 s m l) (k0_pay54 s m) = newL s m l := rfl
/-- The same for head 4. -/
theorem den4 : k0_pay64 (k0_pay60 s m) (k0_pay61 s m l) (k0_pay62 s m) (k0_pay63 (F := Ideal)) = newL s m l := rfl
/-- The same for head 5. -/
theorem den5 : k0_pay70 s m (k0_pay66 s m) l = newL s m l := rfl
/-- The same for head 6. -/
theorem den6 : k0_pay77 (k0_pay76 s m l) = newL s m l := rfl
/-- The same for head 7. -/
theorem den7 : k0_pay85 (k0_pay82 s m) (k0_pay83 s m l) (k0_pay84 s m) = newL s m l := rfl

/-- The program's texts of the weights. -/
theorem wt1 : k0_pay39 (k0_pay37 s m (k0_pay33 s)) w = newP s m w := rfl
/-- The same for head 2. -/
theorem wt2 : k0_pay48 (k0_pay43 s m) w = newP s m w := rfl
/-- The same for head 3. -/
theorem wt3 : k0_pay56 (k0_pay52 s m) w = newP s m w := rfl
/-- The same for head 4. -/
theorem wt4 : k0_pay65 (k0_pay60 s m) w = newP s m w := rfl
/-- The same for head 5. -/
theorem wt5 : k0_pay71 s (k0_pay66 s m) w = newP s m w := rfl
/-- The same for head 6. -/
theorem wt6 : k0_pay78 (k0_pay75 s m) w = newP s m w := rfl
/-- The same for head 7. -/
theorem wt7 (p0 p1 p2 p3 p4 p5 p6 : FVec Ideal S8x2048 .bf16) :
    k0_pay86 p0 p1 p2 p3 p4 p5 p6 (k0_pay82 s m) w = cat8 p0 p1 p2 p3 p4 p5 p6 (newP s m w) := rfl
end Steps

/-! ### The values at an index -/

open Cert.Soft

/-- The chunk's validity at a position. -/
def valid (a n : BitVec 32) (i : Fin 2048) : BitVec 1 := Scalar.cmpi .slt (Scalar.addi (Scalar.muli a 2048#32) (BitVec.ofNat 32 i.val)) n

/-- The masking constant is `⊥`. -/
theorem neg_inf : Ideal.ofBits .f32 0xFF800000#32 = ⊥ := by
  simp [Ideal.ofBits, Ideal.ieee]

/-- The mask at a position. -/
theorem mask_apply (a n : BitVec 32) (i : Fin 2048) : k0_pay12 (F := Ideal) a n (ix2 0 i) = valid a n i := by
  pointwise [k0_pay12]
  rfl

/-- The scale of the scores. -/
def sm : EReal := Ideal.ofBits .f32 0x3E000000#32

/-- The scale is a real. -/
theorem sm_coe : ∃ r : ℝ, sm = (r : EReal) := by
  unfold sm
  simp only [Ideal.ofBits, Ideal.ieee]
  split_ifs with h1 h2 h3 h4
  · exact absurd h1 (by decide)
  all_goals first | exact absurd h1 (by decide) | exact ⟨_, rfl⟩

/-- The products at an index: a sum over a half of the block-diagonal contraction. -/
theorem dot_apply (k : Vec Ideal S1x256x2048 .i8) (q : Vec Ideal S1x32x256 .bf16) (a : Fin 32) (i : Fin 2048) :
    dot k q (ix2 a i) = ∑ b : Fin 256, q (ix3 0 a b) * (((k (ix3 0 b i)).toInt : ℝ) : EReal) := by
  pointwise [k0_pay13]
  rfl

/-- The masked scores at an index. -/
theorem head_apply (o : Fin 2 → ℕ) (ho : S32x2048.Slices o S8x2048) (w : IVec S1x2048 1) (d : FVec Ideal S32x2048 .f32) (k : Vec Ideal S1x1x2048 .f32)
    (r : Fin 8) (i : Fin 2048) (R : Fin 32) (hR : R.val = o 0 + r.val) (h1 : o 1 = 0) :
    head o ho w d k (ix2 r i) = if w (ix2 0 i) = 1#1 then d (ix2 R i) * (k (ix3 0 0 i) * sm) else ⊥ := by
  pointwise [head]
  have e1 : (⟨o 0 + r.val, by have := R.2; omega⟩ : Fin 32) = R := Fin.ext hR.symm
  have e2 : (⟨o 1 + i.val, by omega⟩ : Fin 2048) = i := Fin.ext (by show o 1 + i.val = i.val; omega)
  rw [Scalar.select, neg_inf, e1, e2]
  rfl

/-- The new maximum at an index. -/
theorem newM_apply (s : FVec Ideal S8x2048 .f32) (m : Vec Ideal S8x128 .f32) (r : Fin 8) (l : Fin 128) :
    newM s m (ix2 r l) = max (m (ix2 r l)) (cmax fun i => s (ix2 r i)) := by
  unfold cmax
  pointwise [k0_pay27, k0_pay26]
  rw [neg_inf]

/-- The rescaling factor at an index. -/
theorem newA_apply (s : FVec Ideal S8x2048 .f32) (m : Vec Ideal S8x128 .f32) (r : Fin 8) (l : Fin 128) :
    newA s m (ix2 r l) = Ideal.exp (m (ix2 r l) - newM s m (ix2 r l)) := by
  pointwise [k0_pay27, k0_pay28, k0_pay26]

/-- The weights at an index. -/
theorem newP_apply (s : FVec Ideal S8x2048 .f32) (m : Vec Ideal S8x128 .f32) (w : Vec Ideal S1x1x2048 .f32) (r : Fin 8) (i : Fin 2048) :
    newP s m w (ix2 r i) = Ideal.exp (s (ix2 r i) - newM s m (ix2 r 0)) * w (ix3 0 0 i) := by
  pointwise [k0_pay27, k0_pay32, k0_pay30, k0_pay29, k0_pay26]

/-- The new denominator at an index: each lane sums its own sixteen positions. -/
theorem newL_apply (s : FVec Ideal S8x2048 .f32) (m l : Vec Ideal S8x128 .f32) (r : Fin 8) (c : Fin 128) :
    newL s m l (ix2 r c) = l (ix2 r c) * newA s m (ix2 r c) + ∑ t : Fin 16, Ideal.exp (s (ix2 r (pos t c)) - newM s m (ix2 r 0)) := by
  have hp : ∀ t : Fin 16, pos t c = ⟨128 * t.val + c.val, by omega⟩ := fun _ => rfl
  simp only [hp, Fin.sum_univ_castSucc, Finset.univ_eq_empty, Finset.sum_empty, zero_add]
  unfold newM
  pointwise [k0_pay31, k0_pay30, k0_pay29, k0_pay28, k0_pay27, k0_pay26]
  simp only [Fin.val_castSucc, Fin.val_last, Nat.reduceMul, Nat.mul_zero, Nat.zero_add, Ideal.ofBits_zero]

end Cert.KernelIdeal.Val

end
-- ==== Proof.Spec.lean ====
/- What both programs compute: one batch row's attention over the cache and the new token, at coordinates of the arguments. -/
module

public import proofs.«01_k».proof.Proof.Vocab

@[expose] public section

noncomputable section

namespace Cert.KernelIdeal.Val

open Idealize.ShloMosaic
open Cert.KernelIdeal
open Cert.Soft

/-- The argument arrays. -/
structure Args where
  /-- The queries. -/
  x : Vec Ideal S16x1x64x64 .bf16
  /-- The new keys. -/
  kn : Vec Ideal S16x1x8x64 .bf16
  /-- The new values. -/
  vn : Vec Ideal S16x1x8x64 .bf16
  /-- The cached keys. -/
  k : Vec Ideal S16x32768x8x64 .i8
  /-- The scales of the cached keys. -/
  ks : Vec Ideal S16x32768x8 .f32
  /-- The cached values. -/
  v : Vec Ideal S16x32768x8x64 .i8
  /-- The scales of the cached values. -/
  vs : Vec Ideal S16x32768x8 .f32
  /-- The lengths. -/
  len : Vec Ideal S16 .i32

namespace Args

variable (a : Args) (b : Fin 16) (R d : Fin 64)

/-- The key-value head that a query head reads. -/
def kv (R : Fin 64) : Fin 8 := ⟨R.val / 8, by omega⟩

/-- The score of the new token. -/
def nw : EReal := (∑ d : Fin 64, a.x (ix4 b 0 R d) * a.kn (ix4 b 0 (kv R) d)) * sm
/-- The score of a cached position; `⊥` at the positions past the length. -/
def S (p : Fin 32768) : EReal :=
  if (p.val : ℤ) < (a.len (ix1 b)).toInt then
    (∑ d : Fin 64, a.x (ix4 b 0 R d) * (((a.k (ix4 b p (kv R) d)).toInt : ℝ) : EReal)) * (a.ks (ix3 b p (kv R)) * sm)
  else ⊥
/-- The scale of a cached value. -/
def W (p : Fin 32768) : EReal := a.vs (ix3 b p (kv R))
/-- A cached value, as the integer it is stored as. -/
def U (h : Fin 8) (p : Fin 32768) : EReal := (((a.v (ix4 b p h d)).toInt : ℝ) : EReal)
/-- The greatest score. -/
def T : EReal := max (Finset.univ.fold max ⊥ (a.S b R)) (a.nw b R)
/-- The softmax denominator. -/
def D : EReal := (∑ p, Ideal.exp (a.S b R p - a.T b R)) + Ideal.exp (a.nw b R - a.T b R)
/-- The result. -/
def res : EReal :=
  (∑ p, a.U b d (kv R) p * (Ideal.div (Ideal.exp (a.S b R p - a.T b R)) (a.D b R) * a.W b R p)) +
    Ideal.div (Ideal.exp (a.nw b R - a.T b R)) (a.D b R) * a.vn (ix4 b 0 (kv R) d)

/-- What the theorem asks of the arguments: finite queries, new keys and key scales, and a length with room for one chunk more. -/
structure Good : Prop where
  x : ∀ i, ∃ r : ℝ, a.x i = (r : EReal)
  kn : ∀ i, ∃ r : ℝ, a.kn i = (r : EReal)
  ks : ∀ i, ∃ r : ℝ, a.ks i = (r : EReal)
  len : ∀ i, (a.len i).toInt ≤ 2147481600

/-- A sum of reals is a real. -/
theorem sum_real {ι : Type*} (t : Finset ι) (f : ι → EReal) (h : ∀ i, ∃ r : ℝ, f i = (r : EReal)) : ∃ r : ℝ, ∑ i ∈ t, f i = (r : EReal) := by
  classical
  induction t using Finset.induction_on with
  | empty => exact ⟨0, by simp⟩
  | insert i s hi ih =>
    obtain ⟨r, hr⟩ := h i
    obtain ⟨q, hq⟩ := ih
    exact ⟨r + q, by rw [Finset.sum_insert hi, hr, hq, EReal.coe_add]⟩

/-- A product of reals is a real. -/
theorem mul_real {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul _ _).symm⟩

variable {a} (g : a.Good)
include g

/-- The new token's score is a real. -/
theorem nw_real : ∃ r : ℝ, a.nw b R = (r : EReal) :=
  mul_real (sum_real _ _ fun d => mul_real (g.x _) (g.kn _)) sm_coe

/-- A cached position's score is never `⊤`. -/
theorem S_ne_top (p : Fin 32768) : a.S b R p ≠ ⊤ := by
  unfold S
  split
  · obtain ⟨r, hr⟩ := mul_real (sum_real Finset.univ (fun d : Fin 64 => a.x (ix4 b 0 R d) * (((a.k (ix4 b p (kv R) d)).toInt : ℝ) : EReal)) fun d =>
      mul_real (g.x _) ⟨_, rfl⟩) (mul_real (g.ks (ix3 b p (kv R))) sm_coe)
    rw [hr]; exact EReal.coe_ne_top _
  · exact bot_ne_top

/-- The cut-up scores are never `⊤`. -/
theorem cut_ne_top (j : ℕ) (i : Fin 2048) : cut ⊥ (a.S b R) j i ≠ ⊤ := by
  unfold cut
  split
  · exact S_ne_top b R g _
  · exact bot_ne_top

/-- The running maximum is a real. -/
theorem M_real (k : ℕ) : M (a.nw b R) (cut ⊥ (a.S b R)) k ≠ ⊥ ∧ M (a.nw b R) (cut ⊥ (a.S b R)) k ≠ ⊤ := by
  obtain ⟨r, hr⟩ := nw_real b R g
  exact ⟨M_ne_bot (by rw [hr]; exact EReal.coe_ne_bot _) k, M_ne_top (by rw [hr]; exact EReal.coe_ne_top _) (cut_ne_top b R g) k⟩

/-- The denominator is a positive real. -/
theorem D_pos : ∃ r : ℝ, 0 < r ∧ a.D b R = (r : EReal) := by
  obtain ⟨r, hr⟩ := nw_real b R g
  have hT : a.T b R = M (a.nw b R) (cut ⊥ (a.S b R)) 16 := (M_all _ _).symm
  exact denom_pos (S_ne_top b R g) (by rw [hr]; exact EReal.coe_ne_bot _) (by rw [hr]; exact EReal.coe_ne_top _)
    (by rw [hT]; exact (M_real b R g 16).1) (by rw [hT]; exact (M_real b R g 16).2)

/-- The result, the division last: what the running sums give. -/
theorem res_eq : a.res b R d =
    Ideal.div (A (M (a.nw b R) (cut ⊥ (a.S b R)) 16) (cut ⊥ (a.S b R)) (cut 0 (a.W b R)) (cut 0 (a.U b d (kv R))) 16) (a.D b R) +
      Ideal.div (Ideal.exp (a.nw b R - a.T b R)) (a.D b R) * a.vn (ix4 b 0 (kv R) d) := by
  rw [A_all, M_all, div_weighted (D_pos b R g)]
  rfl

omit g in
/-- The denominator is the sum of the running lanes and the new token's exponential. -/
theorem D_eq : a.D b R = (∑ l, L (M (a.nw b R) (cut ⊥ (a.S b R)) 16) (cut ⊥ (a.S b R)) 16 l) +
    Ideal.exp (a.nw b R - M (a.nw b R) (cut ⊥ (a.S b R)) 16) := by
  rw [sum_L, M_all]
  rfl

end Args

end Cert.KernelIdeal.Val

end
-- ==== Proof.Step.lean ====
/- One point's step over the three carried buffers, stated once for the eight heads: the scores of a chunk, and the
   maxima, denominators and weighted sums they lead to. -/
module

public import proofs.«01_k».proof.Proof.Vocab
public import Idealize.ShloMosaic.Lib.Pipeline.ValueKit
public import Idealize.ShloMosaic.Lib.Pipeline.ReadBack

@[expose] public section

set_option maxRecDepth 16384

noncomputable section

namespace Cert.KernelIdeal.Val

open Idealize.ShloMosaic Idealize.ShloMosaic.TcCoe Idealize.ShloMosaic.Pipeline
open Cert.KernelIdeal Cert.KernelIdeal.Gen Cert.KernelIdeal.Facts
open Cert.Soft

/-- Row `r` of head `h`. -/
abbrev hrow (h r : Fin 8) : Fin 64 := ⟨8 * h.val + r.val, by omega⟩

/-- A row is a row of a head. -/
theorem hrow_surj (R : Fin 64) : ∃ h r : Fin 8, R = hrow h r :=
  ⟨⟨R.val / 8, by omega⟩, ⟨R.val % 8, by omega⟩, Fin.ext (by show R.val = 8 * (R.val / 8) + R.val % 8; omega)⟩

/-- Head `h`'s eight rows of a buffer of 64. -/
def row8 (h : Fin 8) (m : Vec Ideal S64x128 .f32) : Vec Ideal S8x128 .f32 := fun i => m (ix2 (hrow h (i 0)) (i 1))

/-- A buffer of 64 rows, head by head. -/
def rows8 (f : Fin 8 → Vec Ideal S8x128 .f32) : Vec Ideal S64x128 .f32 :=
  fun i => f ⟨(i 0).val / 8, by have : (i 0).val < 64 := (i 0).2; omega⟩ (ix2 ⟨(i 0).val % 8, by omega⟩ (i 1))

/-- `rows8` at a row of a head. -/
theorem rows8_apply (f : Fin 8 → Vec Ideal S8x128 .f32) (h r : Fin 8) (l : Fin 128) : rows8 f (ix2 (hrow h r) l) = f h (ix2 r l) := by
  have e1 : (8 * h.val + r.val) / 8 = h.val := by omega
  have e2 : (8 * h.val + r.val) % 8 = r.val := by omega
  show f ⟨(8 * h.val + r.val) / 8, _⟩ (ix2 ⟨(8 * h.val + r.val) % 8, _⟩ l) = _
  exact congr (congrArg f (Fin.ext e1)) (congrArg (fun k => ix2 k l) (Fin.ext e2))

/-- `row8` at an index. -/
theorem row8_apply (h r : Fin 8) (m : Vec Ideal S64x128 .f32) (l : Fin 128) : row8 h m (ix2 r l) = m (ix2 (hrow h r) l) := rfl

/-- A head's rows of a buffer made head by head. -/
theorem row8_rows8 (h : Fin 8) (f : Fin 8 → Vec Ideal S8x128 .f32) : row8 h (rows8 f) = f h := by
  funext i
  idx_vars i
  exact rows8_apply f h i0 i1

/-- The scores of a chunk: row `R`, position `i`. -/
def sc (a n : BitVec 32) (K : Vec Ideal S1x512x2048 .i8) (ks : Vec Ideal S1x8x2048 .f32) (q : Vec Ideal S2x32x256 .bf16)
    (R : Fin 64) (i : Fin 2048) : EReal :=
  if valid a n i = 1#1 then
    (∑ b : Fin 256, q (ix3 ⟨R.val / 32, by omega⟩ ⟨R.val % 32, by omega⟩ b) *
      (((K (ix3 0 ⟨256 * (R.val / 32) + b.val, by omega⟩ i)).toInt : ℝ) : EReal)) * (ks (ix3 0 ⟨R.val / 8, by omega⟩ i) * sm)
  else ⊥

/-- A head's scores, as the array the program holds. -/
def hsc (a n : BitVec 32) (K : Vec Ideal S1x512x2048 .i8) (ks : Vec Ideal S1x8x2048 .f32) (q : Vec Ideal S2x32x256 .bf16) (h : Fin 8) :
    FVec Ideal S8x2048 .f32 := fun i => sc a n K ks q (hrow h (i 0)) (i 1)

/-- Head `h`'s row of the scales. -/
def srow (h : Fin 8) (ks : Vec Ideal S1x8x2048 .f32) : Vec Ideal S1x1x2048 .f32 := fun i => ks (ix3 0 h (i 2))

/-- The scores from what the program loads for them. -/
theorem head_hsc (a n : BitVec 32) (K : Vec Ideal S1x512x2048 .i8) (ks : Vec Ideal S1x8x2048 .f32) (q : Vec Ideal S2x32x256 .bf16) (h : Fin 8)
    (o : Fin 2 → ℕ) (ho : S32x2048.Slices o S8x2048) (k : Vec Ideal S1x256x2048 .i8) (x : Vec Ideal S1x32x256 .bf16) (g : Vec Ideal S1x1x2048 .f32)
    (h0 : o 0 = 8 * (h.val % 4)) (h1 : o 1 = 0)
    (hk : ∀ b i, k (ix3 0 b i) = K (ix3 0 ⟨256 * (h.val / 4) + b.val, by omega⟩ i))
    (hx : ∀ A b, x (ix3 0 A b) = q (ix3 ⟨h.val / 4, by omega⟩ A b))
    (hg : ∀ i, g (ix3 0 0 i) = ks (ix3 0 h i)) :
    head o ho (k0_pay12 (F := Ideal) a n) (dot k x) g = hsc a n K ks q h := by
  funext i
  idx_vars i
  obtain ⟨r, rfl⟩ : ∃ r, r = i0 := ⟨_, rfl⟩
  obtain ⟨i, rfl⟩ : ∃ i, i = i1 := ⟨_, rfl⟩
  rw [head_apply o ho _ _ g r i ⟨8 * (h.val % 4) + r.val, by omega⟩ (by rw [h0]) h1, mask_apply, dot_apply, hg]
  have e1 : (8 * h.val + r.val) / 32 = h.val / 4 := by omega
  have e2 : (8 * h.val + r.val) % 32 = 8 * (h.val % 4) + r.val := by omega
  have e3 : (8 * h.val + r.val) / 8 = h.val := by omega
  show _ = sc a n K ks q (hrow h r) i
  unfold sc
  simp only [hk, hx, e1, e2, e3]

/-! ### The loads of the eight heads -/

/-- Eight rows loaded from a buffer. -/
theorem ld_rows (h : Fin 8) (o : Fin 2 → ℕ) (inb : ∀ a, o a + S8x128.size a ≤ S64x128.size a) (m : Vec Ideal S64x128 .f32)
    (h0 : o 0 = 8 * h.val) (h1 : o 1 = 0) : View.ld m (Rect.unit (s := S64x128) o S8x128.size inb) = row8 h m := by
  funext i
  refine congrArg m (funext fun a => Fin.ext ?_)
  rw [Rect.idx_unit_val]
  match a with
  | ⟨0, _⟩ => show o 0 + _ = _; rw [h0]; rfl
  | ⟨1, _⟩ => show o 1 + _ = _; rw [h1, Nat.zero_add]; rfl

/-- One row loaded from the scales. -/
theorem ld_srow (h : Fin 8) (o : Fin 3 → ℕ) (inb : ∀ a, o a + S1x1x2048.size a ≤ S1x8x2048.size a) (m : Vec Ideal S1x8x2048 .f32)
    (h0 : o 0 = 0) (h1 : o 1 = h.val) (h2 : o 2 = 0) : View.ld m (Rect.unit (s := S1x8x2048) o S1x1x2048.size inb) = srow h m := by
  funext i
  refine congrArg m (funext fun a => Fin.ext ?_)
  rw [Rect.idx_unit_val]
  match a with
  | ⟨0, _⟩ => show o 0 + (i 0).val = 0; have : (i 0).val < 1 := (i 0).2; omega
  | ⟨1, _⟩ => show o 1 + (i 1).val = h.val; have : (i 1).val < 1 := (i 1).2; omega
  | ⟨2, _⟩ => show o 2 + (i 2).val = (i 2).val; omega

/-- A load through a unit rectangle at an index, the buffer's index named by its coordinates. -/
theorem ld_at {S : Shape} {e : EltTy} (X : Vec Ideal S e) (off size : Fin S.rank → ℕ) (inb) (x : (Rect.unit (s := S) off size inb).shape.Idx) (y : S.Idx)
    (h : ∀ a, (y a).val = off a + (x a).val) : View.ld X (Rect.unit (s := S) off size inb) x = X y :=
  congrArg X (funext fun a => Fin.ext ((Rect.idx_unit_val _ _ _ _ _).trans (h a).symm))

section Loads
variable (a n : BitVec 32) (K : Vec Ideal S1x512x2048 .i8) (ks : Vec Ideal S1x8x2048 .f32) (q : Vec Ideal S2x32x256 .bf16) (m : Vec Ideal S64x128 .f32)

/-- Head 0's rows. -/
theorem ldr0 : View.ld m (Rect.unit (s := S64x128) ![0, 0] ![8, 128] inb_S64x128_S8x128_0_0) = row8 0 m := ld_rows 0 _ _ m rfl rfl
/-- Head 0's scales. -/
theorem lds0 : View.ld ks (Rect.unit (s := S1x8x2048) ![0, 0, 0] ![1, 1, 2048] inb_S1x8x2048_S1x1x2048_0_0_0) = srow 0 ks := ld_srow 0 _ _ ks rfl rfl rfl
/-- Head 0's scores. -/
theorem lsc0 : head ![0, 0] slices_S32x2048_o0_0_S8x2048 (k0_pay12 (F := Ideal) a n)
    (dot (View.ld K (Rect.unit (s := S1x512x2048) ![0, 0, 0] ![1, 256, 2048] inb_S1x512x2048_S1x256x2048_0_0_0))
      (View.ld q (Rect.unit (s := S2x32x256) ![0, 0, 0] ![1, 32, 256] inb_S2x32x256_S1x32x256_0_0_0))) (srow 0 ks) = hsc a n K ks q 0 :=
  head_hsc a n K ks q 0 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 1's rows. -/
theorem ldr1 : View.ld m (Rect.unit (s := S64x128) ![8, 0] ![8, 128] inb_S64x128_S8x128_8_0) = row8 1 m := ld_rows 1 _ _ m rfl rfl
/-- Head 1's scales. -/
theorem lds1 : View.ld ks (Rect.unit (s := S1x8x2048) ![0, 1, 0] ![1, 1, 2048] inb_S1x8x2048_S1x1x2048_0_1_0) = srow 1 ks := ld_srow 1 _ _ ks rfl rfl rfl
/-- Head 1's scores. -/
theorem lsc1 : head ![8, 0] slices_S32x2048_o8_0_S8x2048 (k0_pay12 (F := Ideal) a n)
    (dot (View.ld K (Rect.unit (s := S1x512x2048) ![0, 0, 0] ![1, 256, 2048] inb_S1x512x2048_S1x256x2048_0_0_0))
      (View.ld q (Rect.unit (s := S2x32x256) ![0, 0, 0] ![1, 32, 256] inb_S2x32x256_S1x32x256_0_0_0))) (srow 1 ks) = hsc a n K ks q 1 :=
  head_hsc a n K ks q 1 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 2's rows. -/
theorem ldr2 : View.ld m (Rect.unit (s := S64x128) ![16, 0] ![8, 128] inb_S64x128_S8x128_16_0) = row8 2 m := ld_rows 2 _ _ m rfl rfl
/-- Head 2's scales. -/
theorem lds2 : View.ld ks (Rect.unit (s := S1x8x2048) ![0, 2, 0] ![1, 1, 2048] inb_S1x8x2048_S1x1x2048_0_2_0) = srow 2 ks := ld_srow 2 _ _ ks rfl rfl rfl
/-- Head 2's scores. -/
theorem lsc2 : head ![16, 0] slices_S32x2048_o16_0_S8x2048 (k0_pay12 (F := Ideal) a n)
    (dot (View.ld K (Rect.unit (s := S1x512x2048) ![0, 0, 0] ![1, 256, 2048] inb_S1x512x2048_S1x256x2048_0_0_0))
      (View.ld q (Rect.unit (s := S2x32x256) ![0, 0, 0] ![1, 32, 256] inb_S2x32x256_S1x32x256_0_0_0))) (srow 2 ks) = hsc a n K ks q 2 :=
  head_hsc a n K ks q 2 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 3's rows. -/
theorem ldr3 : View.ld m (Rect.unit (s := S64x128) ![24, 0] ![8, 128] inb_S64x128_S8x128_24_0) = row8 3 m := ld_rows 3 _ _ m rfl rfl
/-- Head 3's scales. -/
theorem lds3 : View.ld ks (Rect.unit (s := S1x8x2048) ![0, 3, 0] ![1, 1, 2048] inb_S1x8x2048_S1x1x2048_0_3_0) = srow 3 ks := ld_srow 3 _ _ ks rfl rfl rfl
/-- Head 3's scores. -/
theorem lsc3 : head ![24, 0] slices_S32x2048_o24_0_S8x2048 (k0_pay12 (F := Ideal) a n)
    (dot (View.ld K (Rect.unit (s := S1x512x2048) ![0, 0, 0] ![1, 256, 2048] inb_S1x512x2048_S1x256x2048_0_0_0))
      (View.ld q (Rect.unit (s := S2x32x256) ![0, 0, 0] ![1, 32, 256] inb_S2x32x256_S1x32x256_0_0_0))) (srow 3 ks) = hsc a n K ks q 3 :=
  head_hsc a n K ks q 3 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 4's rows. -/
theorem ldr4 : View.ld m (Rect.unit (s := S64x128) ![32, 0] ![8, 128] inb_S64x128_S8x128_32_0) = row8 4 m := ld_rows 4 _ _ m rfl rfl
/-- Head 4's scales. -/
theorem lds4 : View.ld ks (Rect.unit (s := S1x8x2048) ![0, 4, 0] ![1, 1, 2048] inb_S1x8x2048_S1x1x2048_0_4_0) = srow 4 ks := ld_srow 4 _ _ ks rfl rfl rfl
/-- Head 4's scores. -/
theorem lsc4 : head ![0, 0] slices_S32x2048_o0_0_S8x2048 (k0_pay12 (F := Ideal) a n)
    (dot (View.ld K (Rect.unit (s := S1x512x2048) ![0, 256, 0] ![1, 256, 2048] inb_S1x512x2048_S1x256x2048_0_256_0))
      (View.ld q (Rect.unit (s := S2x32x256) ![1, 0, 0] ![1, 32, 256] inb_S2x32x256_S1x32x256_1_0_0))) (srow 4 ks) = hsc a n K ks q 4 :=
  head_hsc a n K ks q 4 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 5's rows. -/
theorem ldr5 : View.ld m (Rect.unit (s := S64x128) ![40, 0] ![8, 128] inb_S64x128_S8x128_40_0) = row8 5 m := ld_rows 5 _ _ m rfl rfl
/-- Head 5's scales. -/
theorem lds5 : View.ld ks (Rect.unit (s := S1x8x2048) ![0, 5, 0] ![1, 1, 2048] inb_S1x8x2048_S1x1x2048_0_5_0) = srow 5 ks := ld_srow 5 _ _ ks rfl rfl rfl
/-- Head 5's scores. -/
theorem lsc5 : head ![8, 0] slices_S32x2048_o8_0_S8x2048 (k0_pay12 (F := Ideal) a n)
    (dot (View.ld K (Rect.unit (s := S1x512x2048) ![0, 256, 0] ![1, 256, 2048] inb_S1x512x2048_S1x256x2048_0_256_0))
      (View.ld q (Rect.unit (s := S2x32x256) ![1, 0, 0] ![1, 32, 256] inb_S2x32x256_S1x32x256_1_0_0))) (srow 5 ks) = hsc a n K ks q 5 :=
  head_hsc a n K ks q 5 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 6's rows. -/
theorem ldr6 : View.ld m (Rect.unit (s := S64x128) ![48, 0] ![8, 128] inb_S64x128_S8x128_48_0) = row8 6 m := ld_rows 6 _ _ m rfl rfl
/-- Head 6's scales. -/
theorem lds6 : View.ld ks (Rect.unit (s := S1x8x2048) ![0, 6, 0] ![1, 1, 2048] inb_S1x8x2048_S1x1x2048_0_6_0) = srow 6 ks := ld_srow 6 _ _ ks rfl rfl rfl
/-- Head 6's scores. -/
theorem lsc6 : head ![16, 0] slices_S32x2048_o16_0_S8x2048 (k0_pay12 (F := Ideal) a n)
    (dot (View.ld K (Rect.unit (s := S1x512x2048) ![0, 256, 0] ![1, 256, 2048] inb_S1x512x2048_S1x256x2048_0_256_0))
      (View.ld q (Rect.unit (s := S2x32x256) ![1, 0, 0] ![1, 32, 256] inb_S2x32x256_S1x32x256_1_0_0))) (srow 6 ks) = hsc a n K ks q 6 :=
  head_hsc a n K ks q 6 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl

/-- Head 7's rows. -/
theorem ldr7 : View.ld m (Rect.unit (s := S64x128) ![56, 0] ![8, 128] inb_S64x128_S8x128_56_0) = row8 7 m := ld_rows 7 _ _ m rfl rfl
/-- Head 7's scales. -/
theorem lds7 : View.ld ks (Rect.unit (s := S1x8x2048) ![0, 7, 0] ![1, 1, 2048] inb_S1x8x2048_S1x1x2048_0_7_0) = srow 7 ks := ld_srow 7 _ _ ks rfl rfl rfl
/-- Head 7's scores. -/
theorem lsc7 : head ![24, 0] slices_S32x2048_o24_0_S8x2048 (k0_pay12 (F := Ideal) a n)
    (dot (View.ld K (Rect.unit (s := S1x512x2048) ![0, 256, 0] ![1, 256, 2048] inb_S1x512x2048_S1x256x2048_0_256_0))
      (View.ld q (Rect.unit (s := S2x32x256) ![1, 0, 0] ![1, 32, 256] inb_S2x32x256_S1x32x256_1_0_0))) (srow 7 ks) = hsc a n K ks q 7 :=
  head_hsc a n K ks q 7 _ _ _ _ _ rfl rfl
    (fun b i => ld_at K _ _ _ _ _ fun t => match t with | ⟨0, _⟩ => rfl | ⟨1, _⟩ => rfl | ⟨2, _⟩ => (Nat.zero_add _).symm)
    (fun A b => ld_at q _ _ _ _ _ fun t => match t with | ⟨0, _⟩ => rfl | ⟨1, _⟩ => (Nat.zero_add _).symm | ⟨2, _⟩ => (Nat.zero_add _).symm) fun i => rfl
end Loads

/-! ### The step -/

/-- The new maxima. -/
def stM (a n : BitVec 32) (K : Vec Ideal S1x512x2048 .i8) (ks : Vec Ideal S1x8x2048 .f32) (q : Vec Ideal S2x32x256 .bf16) (m : Vec Ideal S64x128 .f32) :
    Vec Ideal S64x128 .f32 := rows8 fun h => newM (hsc a n K ks q h) (row8 h m)
/-- The new denominators. -/
def stL (a n : BitVec 32) (K : Vec Ideal S1x512x2048 .i8) (ks : Vec Ideal S1x8x2048 .f32) (q : Vec Ideal S2x32x256 .bf16) (m l : Vec Ideal S64x128 .f32) :
    Vec Ideal S64x128 .f32 := rows8 fun h => newL (hsc a n K ks q h) (row8 h m) (row8 h l)
/-- The new weighted sums. -/
def stA (a n : BitVec 32) (K : Vec Ideal S1x512x2048 .i8) (ks : Vec Ideal S1x8x2048 .f32) (q : Vec Ideal S2x32x256 .bf16) (m : Vec Ideal S64x128 .f32)
    (v : Vec Ideal S1x512x2048 .i8) (w : Vec Ideal S1x8x2048 .f32) (acc : Vec Ideal S512x64 .f32) : Vec Ideal S512x64 .f32 :=
  k0_pay87 (newA (hsc a n K ks q 0) (row8 0 m)) (newA (hsc a n K ks q 1) (row8 1 m)) (newA (hsc a n K ks q 2) (row8 2 m)) (newA (hsc a n K ks q 3) (row8 3 m))
    (newA (hsc a n K ks q 4) (row8 4 m)) (newA (hsc a n K ks q 5) (row8 5 m)) (newA (hsc a n K ks q 6) (row8 6 m)) (newA (hsc a n K ks q 7) (row8 7 m))
    (cat8 (newP (hsc a n K ks q 0) (row8 0 m) (srow 0 w)) (newP (hsc a n K ks q 1) (row8 1 m) (srow 1 w)) (newP (hsc a n K ks q 2) (row8 2 m) (srow 2 w))
      (newP (hsc a n K ks q 3) (row8 3 m) (srow 3 w)) (newP (hsc a n K ks q 4) (row8 4 m) (srow 4 w)) (newP (hsc a n K ks q 5) (row8 5 m) (srow 5 w))
      (newP (hsc a n K ks q 6) (row8 6 m) (srow 6 w)) (newP (hsc a n K ks q 7) (row8 7 m) (srow 7 w))) v acc

/-- The eight stores of a buffer, head by head. -/
def pcs8 (f : Fin 8 → Vec Ideal S8x128 .f32) : List (View.Piece (Elt Ideal) S64x128 .f32) :=
  [⟨Rect.unit (s := S64x128) ![56, 0] ![8, 128] inb_S64x128_S8x128_56_0, f 7⟩, ⟨Rect.unit (s := S64x128) ![48, 0] ![8, 128] inb_S64x128_S8x128_48_0, f 6⟩, ⟨Rect.unit (s := S64x128) ![40, 0] ![8, 128] inb_S64x128_S8x128_40_0, f 5⟩, ⟨Rect.unit (s := S64x128) ![32, 0] ![8, 128] inb_S64x128_S8x128_32_0, f 4⟩, ⟨Rect.unit (s := S64x128) ![24, 0] ![8, 128] inb_S64x128_S8x128_24_0, f 3⟩, ⟨Rect.unit (s := S64x128) ![16, 0] ![8, 128] inb_S64x128_S8x128_16_0, f 2⟩, ⟨Rect.unit (s := S64x128) ![8, 0] ![8, 128] inb_S64x128_S8x128_8_0, f 1⟩, ⟨Rect.unit (s := S64x128) ![0, 0] ![8, 128] inb_S64x128_S8x128_0_0, f 0⟩]

/-- The eight stores leave the buffer made head by head, over whatever was stored before. -/
theorem canon_pcs8 (f : Fin 8 → Vec Ideal S8x128 .f32) (L : List (View.Piece (Elt Ideal) S64x128 .f32)) : View.canon (pcs8 f ++ L) = rows8 f := by
  funext y
  refine View.canon_append_of_piecesOf (rows8 f) L (pcs8 f) ⟨fun x => congrFun ((row8_rows8 7 f).symm.trans (ldr7 (rows8 f)).symm) x, fun x => congrFun ((row8_rows8 6 f).symm.trans (ldr6 (rows8 f)).symm) x, fun x => congrFun ((row8_rows8 5 f).symm.trans (ldr5 (rows8 f)).symm) x, fun x => congrFun ((row8_rows8 4 f).symm.trans (ldr4 (rows8 f)).symm) x, fun x => congrFun ((row8_rows8 3 f).symm.trans (ldr3 (rows8 f)).symm) x, fun x => congrFun ((row8_rows8 2 f).symm.trans (ldr2 (rows8 f)).symm) x, fun x => congrFun ((row8_rows8 1 f).symm.trans (ldr1 (rows8 f)).symm) x, fun x => congrFun ((row8_rows8 0 f).symm.trans (ldr0 (rows8 f)).symm) x, trivial⟩ y ?_
  obtain ⟨h, r, hR⟩ := hrow_surj (y 0)
  have hy : ∀ (o : Fin 2 → ℕ) (inb : ∀ a, o a + S8x128.size a ≤ S64x128.size a), o 0 = 8 * h.val → o 1 = 0 → y ∈ (Rect.unit (s := S64x128) o S8x128.size inb).set := by
    intro o inb h0 h1
    have e : y = (Rect.unit (s := S64x128) o S8x128.size inb).idx (ix2 r (y 1)) := by
      funext a
      refine Fin.ext ?_
      rw [Rect.idx_unit_val]
      match a with
      | ⟨0, _⟩ => show (y 0).val = o 0 + r.val; rw [hR, h0]
      | ⟨1, _⟩ => show (y 1).val = o 1 + (y 1).val; rw [h1, Nat.zero_add]
    rw [e]
    exact (Rect.unit (s := S64x128) o S8x128.size inb).idx_mem _
  unfold pcs8
  match h, hy with
  | 0, hy => exact ⟨_, .tail _ (.tail _ (.tail _ (.tail _ (.tail _ (.tail _ (.tail _ (.head _))))))), hy _ inb_S64x128_S8x128_0_0 rfl rfl⟩
  | 1, hy => exact ⟨_, .tail _ (.tail _ (.tail _ (.tail _ (.tail _ (.tail _ (.head _)))))), hy _ inb_S64x128_S8x128_8_0 rfl rfl⟩
  | 2, hy => exact ⟨_, .tail _ (.tail _ (.tail _ (.tail _ (.tail _ (.head _))))), hy _ inb_S64x128_S8x128_16_0 rfl rfl⟩
  | 3, hy => exact ⟨_, .tail _ (.tail _ (.tail _ (.tail _ (.head _)))), hy _ inb_S64x128_S8x128_24_0 rfl rfl⟩
  | 4, hy => exact ⟨_, .tail _ (.tail _ (.tail _ (.head _))), hy _ inb_S64x128_S8x128_32_0 rfl rfl⟩
  | 5, hy => exact ⟨_, .tail _ (.tail _ (.head _)), hy _ inb_S64x128_S8x128_40_0 rfl rfl⟩
  | 6, hy => exact ⟨_, .tail _ (.head _), hy _ inb_S64x128_S8x128_48_0 rfl rfl⟩
  | 7, hy => exact ⟨_, .head _, hy _ inb_S64x128_S8x128_56_0 rfl rfl⟩

/-- The same, the eight stores written out. -/
theorem canon_eight (p0 p1 p2 p3 p4 p5 p6 p7 : Vec Ideal S8x128 .f32) (L : List (View.Piece (Elt Ideal) S64x128 .f32)) :
    View.canon (⟨Rect.unit (s := S64x128) ![56, 0] ![8, 128] inb_S64x128_S8x128_56_0, p7⟩ :: ⟨Rect.unit (s := S64x128) ![48, 0] ![8, 128] inb_S64x128_S8x128_48_0, p6⟩ :: ⟨Rect.unit (s := S64x128) ![40, 0] ![8, 128] inb_S64x128_S8x128_40_0, p5⟩ :: ⟨Rect.unit (s := S64x128) ![32, 0] ![8, 128] inb_S64x128_S8x128_32_0, p4⟩ :: ⟨Rect.unit (s := S64x128) ![24, 0] ![8, 128] inb_S64x128_S8x128_24_0, p3⟩ :: ⟨Rect.unit (s := S64x128) ![16, 0] ![8, 128] inb_S64x128_S8x128_16_0, p2⟩ :: ⟨Rect.unit (s := S64x128) ![8, 0] ![8, 128] inb_S64x128_S8x128_8_0, p1⟩ :: ⟨Rect.unit (s := S64x128) ![0, 0] ![8, 128] inb_S64x128_S8x128_0_0, p0⟩ :: L) = rows8 ![p0, p1, p2, p3, p4, p5, p6, p7] := canon_pcs8 ![p0, p1, p2, p3, p4, p5, p6, p7] L

/-- A load between stores reads what they leave. -/
theorem readCov_canon {sg : RefSig} {κ : Kind} {sp : Space} {s : Shape} {e : EltTy} (v : View sg κ sp s e) (L : List (View.Piece (Elt Ideal) s e)) (r : Rect s) :
    v.readCov L r.toLoadRect = View.ld (View.canon L) r := View.readCov_eq_canon' v L r.toLoadRect

/-- A load of some of the 64 rows passes over a store of others. -/
theorem skip8 {sg : RefSig} {κ : Kind} {sp : Space} (v : View sg κ sp S64x128 .f32) (r : Rect S64x128) (w : r.shape.Idx → Elt Ideal .f32)
    (L : List (View.Piece (Elt Ideal) S64x128 .f32)) (B : LoadRect S64x128) (h : LoadRect.disj r B = true) : v.readCov (⟨r, w⟩ :: L) B = v.readCov L B :=
  View.readCov_skip v r w L B h

/-- A load of the queries' buffer reads what its two stores leave. -/
theorem readCov_q {sg : RefSig} {κ : Kind} {sp : Space} (v : View sg κ sp S2x32x256 .bf16) (L : List (View.Piece (Elt Ideal) S2x32x256 .bf16)) (r : Rect S2x32x256) :
    v.readCov L r.toLoadRect = View.ld (View.canon L) r := readCov_canon v L r

/-- One store of the whole buffer of weighted sums leaves its payload. -/
theorem canon_acc (z : Vec Ideal S512x64 .f32) :
    View.canon (Val := Elt Ideal) (s := S512x64) (e := .f32) [⟨Rect.unit (s := S512x64) ![0, 0] ![512, 64] inb_S512x64_S512x64_0_0, z⟩] = z :=
  View.canon_cons_unit_lit inb_S512x64_S512x64_0_0 z [] fun a => match a with | ⟨0, _⟩ => rfl | ⟨1, _⟩ => rfl

/-- A load of the whole buffer. -/
theorem ld_all (z : Vec Ideal S64x128 .f32) : View.ld z (Rect.unit (s := S64x128) ![0, 0] ![64, 128] inb_S64x128_S64x128_0_0) = z :=
  funext fun i => ld_at z _ _ _ i i fun t => match t with | ⟨0, _⟩ => (Nat.zero_add _).symm | ⟨1, _⟩ => (Nat.zero_add _).symm

section Fold
variable (a n : BitVec 32) (K : Vec Ideal S1x512x2048 .i8) (ks : Vec Ideal S1x8x2048 .f32) (q : Vec Ideal S2x32x256 .bf16) (m l : Vec Ideal S64x128 .f32)
  (v : Vec Ideal S1x512x2048 .i8) (w : Vec Ideal S1x8x2048 .f32) (acc : Vec Ideal S512x64 .f32)

/-- The eight new maxima are `stM`. -/
theorem fold_M : rows8 ![newM (hsc a n K ks q 0) (row8 0 m), newM (hsc a n K ks q 1) (row8 1 m), newM (hsc a n K ks q 2) (row8 2 m), newM (hsc a n K ks q 3) (row8 3 m), newM (hsc a n K ks q 4) (row8 4 m), newM (hsc a n K ks q 5) (row8 5 m), newM (hsc a n K ks q 6) (row8 6 m), newM (hsc a n K ks q 7) (row8 7 m)] = stM a n K ks q m :=
  congrArg rows8 (funext fun h => match h with | 0 => rfl | 1 => rfl | 2 => rfl | 3 => rfl | 4 => rfl | 5 => rfl | 6 => rfl | 7 => rfl)

/-- The eight new denominators are `stL`. -/
theorem fold_L : rows8 ![newL (hsc a n K ks q 0) (row8 0 m) (row8 0 l), newL (hsc a n K ks q 1) (row8 1 m) (row8 1 l), newL (hsc a n K ks q 2) (row8 2 m) (row8 2 l), newL (hsc a n K ks q 3) (row8 3 m) (row8 3 l), newL (hsc a n K ks q 4) (row8 4 m) (row8 4 l), newL (hsc a n K ks q 5) (row8 5 m) (row8 5 l), newL (hsc a n K ks q 6) (row8 6 m) (row8 6 l), newL (hsc a n K ks q 7) (row8 7 m) (row8 7 l)] = stL a n K ks q m l :=
  congrArg rows8 (funext fun h => match h with | 0 => rfl | 1 => rfl | 2 => rfl | 3 => rfl | 4 => rfl | 5 => rfl | 6 => rfl | 7 => rfl)

/-- The new weighted sums are `stA`. -/
theorem fold_A : k0_pay87 (newA (hsc a n K ks q 0) (row8 0 m)) (newA (hsc a n K ks q 1) (row8 1 m)) (newA (hsc a n K ks q 2) (row8 2 m)) (newA (hsc a n K ks q 3) (row8 3 m)) (newA (hsc a n K ks q 4) (row8 4 m)) (newA (hsc a n K ks q 5) (row8 5 m)) (newA (hsc a n K ks q 6) (row8 6 m)) (newA (hsc a n K ks q 7) (row8 7 m)) (cat8 (newP (hsc a n K ks q 0) (row8 0 m) (srow 0 w)) (newP (hsc a n K ks q 1) (row8 1 m) (srow 1 w)) (newP (hsc a n K ks q 2) (row8 2 m) (srow 2 w)) (newP (hsc a n K ks q 3) (row8 3 m) (srow 3 w)) (newP (hsc a n K ks q 4) (row8 4 m) (srow 4 w)) (newP (hsc a n K ks q 5) (row8 5 m) (srow 5 w)) (newP (hsc a n K ks q 6) (row8 6 m) (srow 6 w)) (newP (hsc a n K ks q 7) (row8 7 m) (srow 7 w))) v acc = stA a n K ks q m v w acc := rfl
end Fold

/-- The queries laid out on the block diagonal, as the first point of a row stores them. -/
def q0 (x : Vec Ideal S1x64x64 .bf16) : Vec Ideal S2x32x256 .bf16 := View.canon
  [⟨Rect.unit (s := S2x32x256) ![1, 0, 0] ![1, 32, 256] inb_S2x32x256_S1x32x256_1_0_0,
      k0_pay10 k0_pay5 k0_pay6 k0_pay7 (View.ld x (Rect.unit (s := S1x64x64) ![0, 32, 0] ![1, 32, 64] inb_S1x64x64_S1x32x64_0_32_0))⟩,
    ⟨Rect.unit (s := S2x32x256) ![0, 0, 0] ![1, 32, 256] inb_S2x32x256_S1x32x256_0_0_0,
      k0_pay9 k0_pay5 k0_pay6 k0_pay7 (View.ld x (Rect.unit (s := S1x64x64) ![0, 0, 0] ![1, 32, 64] inb_S1x64x64_S1x32x64_0_0_0))⟩]

/-- `q0`, the program's text of it. -/
theorem fold_q (x : Vec Ideal S1x64x64 .bf16) : View.canon
  [⟨Rect.unit (s := S2x32x256) ![1, 0, 0] ![1, 32, 256] inb_S2x32x256_S1x32x256_1_0_0,
      k0_pay10 k0_pay5 k0_pay6 k0_pay7 (View.ld x (Rect.unit (s := S1x64x64) ![0, 32, 0] ![1, 32, 64] inb_S1x64x64_S1x32x64_0_32_0))⟩,
    ⟨Rect.unit (s := S2x32x256) ![0, 0, 0] ![1, 32, 256] inb_S2x32x256_S1x32x256_0_0_0,
      k0_pay9 k0_pay5 k0_pay6 k0_pay7 (View.ld x (Rect.unit (s := S1x64x64) ![0, 0, 0] ![1, 32, 64] inb_S1x64x64_S1x32x64_0_0_0))⟩] = q0 x := rfl

/-- The first maxima: the new token's scores. -/
def m0 (x : Vec Ideal S1x64x64 .bf16) (kn : Vec Ideal S1x8x64 .bf16) : Vec Ideal S64x128 .f32 := k0_pay1 (k0_pay11 x kn)

/-- The output row from the carried buffers after the last chunk. -/
def fin (x : Vec Ideal S1x64x64 .bf16) (kn vn : Vec Ideal S1x8x64 .bf16) (m l : Vec Ideal S64x128 .f32) (acc : Vec Ideal S512x64 .f32) : Vec Ideal S1x64x64 .bf16 :=
  k0_pay4 (k0_pay88 x kn (View.ld m (Rect.unit (s := S64x128) ![0, 0] ![64, 1] inb_S64x128_S64x1_0_0)))
    (k0_pay89 x kn (View.ld m (Rect.unit (s := S64x128) ![0, 0] ![64, 1] inb_S64x128_S64x1_0_0)) l)
    (k0_pay93 k0_pay90 k0_pay91 k0_pay92 0#32)
    (k0_pay94 k0_pay90 k0_pay91 k0_pay92 0#32 (View.ld acc (Rect.unit (s := S512x64) ![0, 0] ![64, 64] inb_S512x64_S64x64_0_0)) (View.ld acc (Rect.unit (s := S512x64) ![64, 0] ![64, 64] inb_S512x64_S64x64_64_0)) (View.ld acc (Rect.unit (s := S512x64) ![128, 0] ![64, 64] inb_S512x64_S64x64_128_0)) (View.ld acc (Rect.unit (s := S512x64) ![192, 0] ![64, 64] inb_S512x64_S64x64_192_0)) (View.ld acc (Rect.unit (s := S512x64) ![256, 0] ![64, 64] inb_S512x64_S64x64_256_0)) (View.ld acc (Rect.unit (s := S512x64) ![320, 0] ![64, 64] inb_S512x64_S64x64_320_0)) (View.ld acc (Rect.unit (s := S512x64) ![384, 0] ![64, 64] inb_S512x64_S64x64_384_0)))
    k0_pay95 (View.ld acc (Rect.unit (s := S512x64) ![448, 0] ![64, 64] inb_S512x64_S64x64_448_0)) vn

end Cert.KernelIdeal.Val

end
-- ==== Proof.Apply.lean ====
/- The step, the first point's fills and the last point's output, read at an index. -/
module

public import proofs.«01_k».proof.Proof.Step

@[expose] public section

set_option maxRecDepth 16384

noncomputable section

namespace Cert.KernelIdeal.Val

open Idealize.ShloMosaic Idealize.ShloMosaic.TcCoe Idealize.ShloMosaic.Pipeline
open Cert.KernelIdeal Cert.KernelIdeal.Gen Cert.KernelIdeal.Facts
open Cert.Soft

section Step
variable (a n : BitVec 32) (K : Vec Ideal S1x512x2048 .i8) (ks : Vec Ideal S1x8x2048 .f32) (q : Vec Ideal S2x32x256 .bf16) (m l : Vec Ideal S64x128 .f32)
  (v : Vec Ideal S1x512x2048 .i8) (w : Vec Ideal S1x8x2048 .f32) (acc : Vec Ideal S512x64 .f32)

/-- The new maxima at an index. -/
theorem stM_apply (R : Fin 64) (c : Fin 128) : stM a n K ks q m (ix2 R c) = max (m (ix2 R c)) (cmax (sc a n K ks q R)) := by
  obtain ⟨h, r, rfl⟩ := hrow_surj R
  rw [stM, rows8_apply, newM_apply]
  rfl

/-- The new denominators at an index. -/
theorem stL_apply (R : Fin 64) (c : Fin 128) : stL a n K ks q m l (ix2 R c) =
    l (ix2 R c) * Ideal.exp (m (ix2 R c) - stM a n K ks q m (ix2 R c)) +
      ∑ t : Fin 16, Ideal.exp (sc a n K ks q R (pos t c) - stM a n K ks q m (ix2 R 0)) := by
  obtain ⟨h, r, rfl⟩ := hrow_surj R
  rw [stL, rows8_apply, newL_apply, newA_apply, stM, rows8_apply, rows8_apply]
  rfl
end Step

/-- Eight pieces of eight rows, one under the other: row `r` of piece `h`. -/
theorem pick8 {α : Type} (g : Fin 8 → Fin 8 → α) (h r : Fin 8) (R : ℕ) (e : R = 8 * h.val + r.val) :
    (if h0 : R < 8 then g 0 ⟨R, h0⟩
      else if h1 : R - 8 < 8 then g 1 ⟨R - 8, h1⟩
      else if h2 : R - 8 - 8 < 8 then g 2 ⟨R - 8 - 8, h2⟩
      else if h3 : R - 8 - 8 - 8 < 8 then g 3 ⟨R - 8 - 8 - 8, h3⟩
      else if h4 : R - 8 - 8 - 8 - 8 < 8 then g 4 ⟨R - 8 - 8 - 8 - 8, h4⟩
      else if h5 : R - 8 - 8 - 8 - 8 - 8 < 8 then g 5 ⟨R - 8 - 8 - 8 - 8 - 8, h5⟩
      else if h6 : R - 8 - 8 - 8 - 8 - 8 - 8 < 8 then g 6 ⟨R - 8 - 8 - 8 - 8 - 8 - 8, h6⟩
      else g 7 ⟨R - 8 - 8 - 8 - 8 - 8 - 8 - 8, by omega⟩) = g h r := by
  have key : ∀ (j k : Fin 8), j.val = h.val → k.val = r.val → g j k = g h r := fun j k a b => by rw [Fin.ext a, Fin.ext b]
  split_ifs <;> (apply key <;> simp <;> omega)

section Step
variable (a n : BitVec 32) (K : Vec Ideal S1x512x2048 .i8) (ks : Vec Ideal S1x8x2048 .f32) (q : Vec Ideal S2x32x256 .bf16) (m l : Vec Ideal S64x128 .f32)
  (v : Vec Ideal S1x512x2048 .i8) (w : Vec Ideal S1x8x2048 .f32) (acc : Vec Ideal S512x64 .f32)

/-- Eight heads' weights at a row of a head. -/
theorem cat8_apply (f : Fin 8 → FVec Ideal S8x2048 .bf16) (h r : Fin 8) (i : Fin 2048) :
    cat8 (f 0) (f 1) (f 2) (f 3) (f 4) (f 5) (f 6) (f 7) (ix2 (hrow h r) i) = f h (ix2 r i) := by
  pointwise []
  exact pick8 (fun j k => f j (ix2 k i)) h r _ rfl

/-- The weighted sums' update at an index. -/
theorem pay87_apply (f : Fin 8 → FVec Ideal S8x128 .f32) (p : FVec Ideal S64x2048 .bf16) (u : Fin 512) (h r : Fin 8) :
    k0_pay87 (f 0) (f 1) (f 2) (f 3) (f 4) (f 5) (f 6) (f 7) p v acc (ix2 u (hrow h r)) =
      acc (ix2 u (hrow h r)) * f h (ix2 r 0) + ∑ i : Fin 2048, (((v (ix3 0 u i)).toInt : ℝ) : EReal) * p (ix2 (hrow h r) i) := by
  pointwise [k0_pay87]
  refine congr (congrArg _ (congrArg _ ?_)) rfl
  exact pick8 (fun j k => f j (ix2 k 0)) h r _ rfl

/-- The new weighted sums at an index. -/
theorem stA_apply (u : Fin 512) (R : Fin 64) : stA a n K ks q m v w acc (ix2 u R) =
    acc (ix2 u R) * Ideal.exp (m (ix2 R 0) - stM a n K ks q m (ix2 R 0)) +
      ∑ i : Fin 2048, (((v (ix3 0 u i)).toInt : ℝ) : EReal) *
        (Ideal.exp (sc a n K ks q R i - stM a n K ks q m (ix2 R 0)) * w (ix3 0 ⟨R.val / 8, by omega⟩ i)) := by
  obtain ⟨h, r, rfl⟩ := hrow_surj R
  have e : (⟨(hrow h r).val / 8, by omega⟩ : Fin 8) = h := Fin.ext (by show (8 * h.val + r.val) / 8 = h.val; omega)
  refine (pay87_apply v acc (fun h => newA (hsc a n K ks q h) (row8 h m)) _ u h r).trans ?_
  rw [newA_apply, e]
  have e1 : stM a n K ks q m (ix2 (hrow h r) 0) = newM (hsc a n K ks q h) (row8 h m) (ix2 r 0) := rows8_apply _ h r 0
  rw [e1]
  refine congr rfl (Finset.sum_congr rfl fun i _ => congrArg _ ?_)
  refine (cat8_apply (fun h => newP (hsc a n K ks q h) (row8 h m) (srow h w)) h r i).trans ?_
  rw [newP_apply]
  rfl
end Step

/-- The first maxima at an index: the new token's score, in every lane. -/
theorem m0_apply (x : Vec Ideal S1x64x64 .bf16) (kn : Vec Ideal S1x8x64 .bf16) (R : Fin 64) (c : Fin 128) :
    m0 x kn (ix2 R c) = (∑ d : Fin 64, x (ix3 0 R d) * kn (ix3 0 ⟨R.val / 8, by omega⟩ d)) * sm := by
  pointwise [m0, k0_pay1, k0_pay11]
  rfl

/-- The first denominators. -/
theorem l0_apply (R : Fin 64) (c : Fin 128) : k0_pay2 (F := Ideal) (ix2 R c) = 0 := by
  pointwise [k0_pay2]

/-- The first weighted sums. -/
theorem a0_apply (u : Fin 512) (R : Fin 64) : k0_pay3 (F := Ideal) (ix2 u R) = 0 := by
  pointwise [k0_pay3]

/-- The integer quotient of a row by eight, as the program computes it. -/
theorem pay5_apply (A : Fin 32) (b : Fin 256) : k0_pay5 (ix2 A b) = BitVec.ofNat 32 (A.val / 8) := by
  pointwise [k0_pay5]
  clear b
  revert A
  decide

/-- The integer quotient of a column by sixty-four. -/
theorem pay8_apply (A : Fin 32) (b : Fin 256) : k0_pay8 k0_pay6 k0_pay7 (ix2 A b) = BitVec.ofNat 32 (b.val / 64) := by
  pointwise [k0_pay8, k0_pay6, k0_pay7]
  clear A
  revert b
  decide

/-- The integer quotient of a column by eight. -/
theorem pay93_apply (d R : Fin 64) : k0_pay93 k0_pay90 k0_pay91 k0_pay92 0#32 (ix2 d R) = BitVec.ofNat 32 (R.val / 8) := by
  pointwise [k0_pay93, k0_pay90, k0_pay91, k0_pay92]
  clear d
  revert R
  decide

/-- A choice by the equality of two words below the word size. -/
theorem select_eq {α : Type} (p q : ℕ) (hp : p < 2 ^ 32) (hq : q < 2 ^ 32) (x y : α) :
    Scalar.select (IntOp.cmpi .eq (BitVec.ofNat 32 p) (BitVec.ofNat 32 q)) x y = if p = q then x else y := by
  have e : (BitVec.ofNat 32 p = BitVec.ofNat 32 q) ↔ p = q :=
    ⟨fun h => by have := congrArg BitVec.toNat h; rwa [BitVec.toNat_ofNat, BitVec.toNat_ofNat, Nat.mod_eq_of_lt hp, Nat.mod_eq_of_lt hq] at this, fun h => h ▸ rfl⟩
  by_cases h : p = q
  · subst h
    simp [Scalar.select, IntOp.cmpi]
  · have h' : ¬ BitVec.ofNat 32 p = BitVec.ofNat 32 q := fun k => h (e.mp k)
    have hb : (BitVec.ofNat 32 p == BitVec.ofNat 32 q) = false := beq_eq_false_iff_ne.mpr h'
    show (if BitVec.ofBool (BitVec.ofNat 32 p == BitVec.ofNat 32 q) = 1 then x else y) = _
    rw [hb, if_neg h]
    rfl

/-- Four copies of sixty-four columns, side by side. -/
theorem pick4 {α : Type} (g : Fin 64 → α) (b : Fin 256) :
    (if h : b.val < 64 then g ⟨b.val, h⟩
      else if h : b.val - 64 < 64 then g ⟨b.val - 64, h⟩
      else if h : b.val - 64 - 64 < 64 then g ⟨b.val - 64 - 64, h⟩
      else g ⟨b.val - 64 - 64 - 64, by omega⟩) = g ⟨b.val % 64, by omega⟩ := by
  have key : ∀ k : Fin 64, k.val = b.val % 64 → g k = g ⟨b.val % 64, by omega⟩ := fun k e => congrArg g (Fin.ext e)
  split_ifs <;> (apply key; simp; omega)

/-- Half of the block-diagonal queries at an index. -/
theorem pay10_apply (x : Vec Ideal S1x32x64 .bf16) (A : Fin 32) (b : Fin 256) :
    k0_pay10 k0_pay5 k0_pay6 k0_pay7 x (ix3 0 A b) = if A.val / 8 = b.val / 64 then x (ix3 0 A ⟨b.val % 64, by omega⟩) else 0 := by
  pointwise [k0_pay10]
  rw [pay5_apply, pay8_apply, select_eq _ _ (by omega) (by omega), pick4 (fun d => x (ix3 0 A d)) b]

/-- The block-diagonal queries. -/
def bd (x : Vec Ideal S1x64x64 .bf16) : Vec Ideal S2x32x256 .bf16 := fun i =>
  if (i 1).val / 8 = (i 2).val / 64 then
    x (ix3 0 ⟨32 * (i 0).val + (i 1).val, by have h0 : (i 0).val < 2 := (i 0).2; have h1 : (i 1).val < 32 := (i 1).2; omega⟩ ⟨(i 2).val % 64, by omega⟩)
  else 0

/-- The first point's two stores make the block-diagonal queries. -/
theorem q0_eq (x : Vec Ideal S1x64x64 .bf16) : q0 x = bd x := by
  funext y
  have hp : ∀ (j : Fin 2) (o : Fin 3 → ℕ) (inb : ∀ a, o a + S1x32x64.size a ≤ S1x64x64.size a) (o' : Fin 3 → ℕ) (inb' : ∀ a, o' a + S1x32x256.size a ≤ S2x32x256.size a),
      o = ![0, 32 * j.val, 0] → o' = ![j.val, 0, 0] → ∀ z : S1x32x256.Idx,
      k0_pay10 k0_pay5 k0_pay6 k0_pay7 (View.ld x (Rect.unit (s := S1x64x64) o S1x32x64.size inb)) z =
        bd x ((Rect.unit (s := S2x32x256) o' S1x32x256.size inb').idx z) := by
    rintro j o inb o' inb' rfl rfl z
    idx_vars z
    obtain rfl : z0 = 0 := Subsingleton.elim _ _
    have e : (Rect.unit (s := S2x32x256) ![j.val, 0, 0] S1x32x256.size inb').idx (ix3 0 z1 z2) = ix3 j z1 z2 := by
      funext a
      refine Fin.ext ((Rect.idx_unit_val _ _ _ _ _).trans ?_)
      match a with
      | ⟨0, _⟩ => rfl
      | ⟨1, _⟩ => exact Nat.zero_add _
      | ⟨2, _⟩ => exact Nat.zero_add _
    rw [e]
    refine (pay10_apply (View.ld x (Rect.unit (s := S1x64x64) ![0, 32 * j.val, 0] S1x32x64.size inb)) z1 z2).trans ?_
    refine if_congr Iff.rfl (ld_at x _ _ _ _ _ fun a => ?_) rfl
    match a with
    | ⟨0, _⟩ => rfl
    | ⟨1, _⟩ => rfl
    | ⟨2, _⟩ => exact (Nat.zero_add _).symm
  have hy : ∀ (o : Fin 3 → ℕ) (inb : ∀ a, o a + S1x32x256.size a ≤ S2x32x256.size a), o = ![(y 0).val, 0, 0] → y ∈ (Rect.unit (s := S2x32x256) o S1x32x256.size inb).set := by
    rintro o inb rfl
    have e : y = (Rect.unit (s := S2x32x256) ![(y 0).val, 0, 0] S1x32x256.size inb).idx (ix3 0 (y 1) (y 2)) := by
      funext a
      refine Fin.ext (Eq.trans ?_ (Rect.idx_unit_val _ _ _ _ _).symm)
      match a with
      | ⟨0, _⟩ => rfl
      | ⟨1, _⟩ => exact (Nat.zero_add _).symm
      | ⟨2, _⟩ => exact (Nat.zero_add _).symm
    have := (Rect.unit (s := S2x32x256) ![(y 0).val, 0, 0] S1x32x256.size inb).idx_mem (ix3 0 (y 1) (y 2))
    rwa [← e] at this
  unfold q0
  refine View.canon_append_of_piecesOf (bd x) [] [_, _] ⟨hp 1 ![0, 32, 0] inb_S1x64x64_S1x32x64_0_32_0 ![1, 0, 0] inb_S2x32x256_S1x32x256_1_0_0 rfl rfl,
    hp 0 ![0, 0, 0] inb_S1x64x64_S1x32x64_0_0_0 ![0, 0, 0] inb_S2x32x256_S1x32x256_0_0_0 rfl rfl, trivial⟩ y ?_
  have h2 : (y 0).val = 0 ∨ (y 0).val = 1 := by have : (y 0).val < 2 := (y 0).2; omega
  rcases h2 with h | h
  · exact ⟨_, .tail _ (.head _), hy _ inb_S2x32x256_S1x32x256_0_0_0 (by rw [h])⟩
  · exact ⟨_, .head _, hy _ inb_S2x32x256_S1x32x256_1_0_0 (by rw [h])⟩

/-- A sum over 256 columns, block by block. -/
theorem sum_blocks (f : Fin 256 → EReal) : ∑ b, f b = ∑ g : Fin 4, ∑ d : Fin 64, f ⟨64 * g.val + d.val, by omega⟩ := by
  rw [← Fintype.sum_prod_type']
  refine (Fintype.sum_equiv (finProdFinEquiv (m := 4) (n := 64)) _ _ fun x => ?_).symm
  refine congrArg f (Fin.ext ?_)
  show 64 * x.1.val + x.2.val = x.2.val + 64 * x.1.val
  omega

/-- The scores from the block-diagonal queries: one head's sixty-four products. -/
theorem sc_bd (a n : BitVec 32) (K : Vec Ideal S1x512x2048 .i8) (ks : Vec Ideal S1x8x2048 .f32) (x : Vec Ideal S1x64x64 .bf16) (R : Fin 64) (i : Fin 2048) :
    sc a n K ks (bd x) R i = if valid a n i = 1#1 then
      (∑ d : Fin 64, x (ix3 0 R d) * (((K (ix3 0 ⟨64 * (R.val / 8) + d.val, by omega⟩ i)).toInt : ℝ) : EReal)) * (ks (ix3 0 ⟨R.val / 8, by omega⟩ i) * sm)
      else ⊥ := by
  unfold sc
  refine if_congr Iff.rfl (congrArg (· * _) ?_) rfl
  rw [sum_blocks, Finset.sum_eq_single (⟨R.val % 32 / 8, by omega⟩ : Fin 4)]
  · refine Finset.sum_congr rfl fun d _ => ?_
    have e0 : (R.val % 32) / 8 = (64 * (R.val % 32 / 8) + d.val) / 64 := by omega
    have e1 : (⟨32 * (R.val / 32) + R.val % 32, by omega⟩ : Fin 64) = R := Fin.ext (by show 32 * (R.val / 32) + R.val % 32 = R.val; omega)
    have e2 : (⟨(64 * (R.val % 32 / 8) + d.val) % 64, by omega⟩ : Fin 64) = d := Fin.ext (by show (64 * (R.val % 32 / 8) + d.val) % 64 = d.val; omega)
    have e3 : (⟨256 * (R.val / 32) + (64 * (R.val % 32 / 8) + d.val), by omega⟩ : Fin 512) = ⟨64 * (R.val / 8) + d.val, by omega⟩ :=
      Fin.ext (by show 256 * (R.val / 32) + (64 * (R.val % 32 / 8) + d.val) = 64 * (R.val / 8) + d.val; omega)
    show (if (R.val % 32) / 8 = (64 * (R.val % 32 / 8) + d.val) / 64 then x (ix3 0 ⟨32 * (R.val / 32) + R.val % 32, _⟩ ⟨(64 * (R.val % 32 / 8) + d.val) % 64, _⟩)
      else (0 : EReal)) * (((K (ix3 0 ⟨256 * (R.val / 32) + (64 * (R.val % 32 / 8) + d.val), _⟩ i)).toInt : ℝ) : EReal) = _
    rw [if_pos e0, e1, e2, e3]
  · intro g _ hg
    refine Finset.sum_eq_zero fun d _ => ?_
    have : ¬ (R.val % 32) / 8 = (64 * g.val + d.val) / 64 := fun e => hg (Fin.ext (by show g.val = R.val % 32 / 8; omega))
    show (if (R.val % 32) / 8 = (64 * g.val + d.val) / 64 then _ else (0 : EReal)) * _ = 0
    rw [if_neg this, zero_mul]
  · exact fun h => absurd (Finset.mem_univ _) h

/-- Eight blocks chosen by a word. -/
theorem pickSel {α : Type} (g : Fin 8 → α) (h : Fin 8) (z : α) :
    (if h.val = 7 then g 7 else if h.val = 6 then g 6 else if h.val = 5 then g 5 else if h.val = 4 then g 4 else
      if h.val = 3 then g 3 else if h.val = 2 then g 2 else if h.val = 1 then g 1 else if h.val = 0 then g 0 else z) = g h :=
  match h with | 0 => rfl | 1 => rfl | 2 => rfl | 3 => rfl | 4 => rfl | 5 => rfl | 6 => rfl | 7 => rfl

/-- The output row at an index. -/
theorem fin_apply (x : Vec Ideal S1x64x64 .bf16) (kn vn : Vec Ideal S1x8x64 .bf16) (m l : Vec Ideal S64x128 .f32) (acc : Vec Ideal S512x64 .f32) (R d : Fin 64)
    (e D : EReal) (he : e = Ideal.exp ((∑ d : Fin 64, x (ix3 0 R d) * kn (ix3 0 ⟨R.val / 8, by omega⟩ d)) * sm - m (ix2 R 0)))
    (hD : D = ∑ c : Fin 128, l (ix2 R c) + e) :
    fin x kn vn m l acc (ix3 0 R d) =
      Ideal.div (acc (ix2 ⟨64 * (R.val / 8) + d.val, by omega⟩ R)) D + Ideal.div e D * vn (ix3 0 ⟨R.val / 8, by omega⟩ d) := by
  have h88 : k0_pay88 x kn (View.ld m (Rect.unit (s := S64x128) ![0, 0] ![64, 1] inb_S64x128_S64x1_0_0)) (ix2 R 0) = e := by
    rw [he]
    pointwise [k0_pay88]
    rfl
  have h89 : k0_pay89 x kn (View.ld m (Rect.unit (s := S64x128) ![0, 0] ![64, 1] inb_S64x128_S64x1_0_0)) l (ix2 R 0) = D := by
    rw [hD, ← h88]
    pointwise [k0_pay89]
  unfold fin
  pointwise [k0_pay4, k0_pay95, k0_pay94]
  rw [h88, h89, pay93_apply]
  have hs : ∀ (k : ℕ), k < 2 ^ 32 → ∀ y z : EReal, Scalar.select (IntOp.cmpi .eq (BitVec.ofNat 32 (R.val / 8)) (BitVec.ofNat 32 k)) y z = if R.val / 8 = k then y else z :=
    fun k hk y z => select_eq _ _ (by omega) hk y z
  rw [hs 7 (by norm_num), hs 6 (by norm_num), hs 5 (by norm_num), hs 4 (by norm_num), hs 3 (by norm_num), hs 2 (by norm_num), hs 1 (by norm_num), hs 0 (by norm_num)]
  refine congr (congrArg _ (congrArg (fun z => Ideal.div z D) ?_)) rfl
  have h0 : (⟨d.val, by omega⟩ : Fin 512) = ⟨64 * (0 : Fin 8).val + d.val, by omega⟩ := Fin.ext (by show d.val = 64 * 0 + d.val; omega)
  rw [h0]
  exact pickSel (fun j => acc (ix2 ⟨64 * j.val + d.val, by omega⟩ R)) ⟨R.val / 8, by omega⟩ 0
end Cert.KernelIdeal.Val

end
-- ==== Proof.Cases.lean ====
/- What one grid point of the carried buffers leaves, by the case the point is in. -/
module

public import proofs.«01_k».proof.Proof.Step
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Facts

variable (m : (ℓ : Loc nD τ sig) → Buf (Elt Ideal) ℓ) (hO : Ok m) (c : Dev nD) (t : Fin (cfgM m hO).N)

/-- The length of the sequence a point works on. -/
abbrev lenAt : BitVec 32 := tbM0_0.view.readAt (Elt Ideal) (Rect.unit (s := S16) (k0_off1 (grid0.coords t)) S1.size (k0_off1_inb (grid0.coords t))).toLoadRect (tbl m 0) (Shape.Idx.first (numel1_S1.symm ▸ Nat.one_pos))
/-- The chunk a point works on. -/
abbrev chAt : BitVec 32 := BitVec.ofNat 32 (grid0.coords t 1).val
/-- A point's queries. -/
abbrev bX : Vec Ideal S1x64x64 .bf16 := iblk m hO c 0 t
/-- A point's new keys. -/
abbrev bKn : Vec Ideal S1x8x64 .bf16 := iblk m hO c 1 t
/-- A point's new values. -/
abbrev bVn : Vec Ideal S1x8x64 .bf16 := iblk m hO c 2 t
/-- A point's chunk of keys. -/
abbrev bK : Vec Ideal S1x512x2048 .i8 := iblk m hO c 3 t
/-- The scales of a point's keys. -/
abbrev bKs : Vec Ideal S1x8x2048 .f32 := iblk m hO c 4 t
/-- A point's chunk of values. -/
abbrev bV : Vec Ideal S1x512x2048 .i8 := iblk m hO c 5 t
/-- The scales of a point's values. -/
abbrev bVs : Vec Ideal S1x8x2048 .f32 := iblk m hO c 6 t

/-- Case C: the queries. -/
theorem qC (h0 : ¬t.val % 16 = 0) (h1 : cond0_1 (grid0.coords t) (lenAt m hO t)) (h2 : ¬t.val % 16 = 15) :
    (outsAt0 m hO c t.val t.isLt).2.1 = (outsAt0 m hO c (t.val - 1) (Nat.lt_of_le_of_lt (Nat.sub_le _ _) t.isLt)).2.1 := by
  rw [outsAt0_C m hO c t h0 h1 h2]
  rfl

/-- Case C: the maxima. -/
theorem mC (h0 : ¬t.val % 16 = 0) (h1 : cond0_1 (grid0.coords t) (lenAt m hO t)) (h2 : ¬t.val % 16 = 15) :
    (outsAt0 m hO c t.val t.isLt).2.2.1 = stM (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 := by
  rw [outsAt0_C m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case C: the denominators. -/
theorem lC (h0 : ¬t.val % 16 = 0) (h1 : cond0_1 (grid0.coords t) (lenAt m hO t)) (h2 : ¬t.val % 16 = 15) :
    (outsAt0 m hO c t.val t.isLt).2.2.2.1 = stL (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 := by
  rw [outsAt0_C m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case C: the weighted sums. -/
theorem aC (h0 : ¬t.val % 16 = 0) (h1 : cond0_1 (grid0.coords t) (lenAt m hO t)) (h2 : ¬t.val % 16 = 15) :
    (outsAt0 m hO c t.val t.isLt).2.2.2.2 = stA (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (bV m hO c t) (bVs m hO c t) (outsAt0 m hO c (t.val - 1) (Nat.lt_of_le_of_lt (Nat.sub_le _ _) t.isLt)).2.2.2.2 := by
  rw [outsAt0_C m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case E: the queries. -/
theorem qE (h0 : ¬t.val % 16 = 0) (h1 : cond0_1 (grid0.coords t) (lenAt m hO t)) (h2 : t.val % 16 = 15) :
    (outsAt0 m hO c t.val t.isLt).2.1 = (outsAt0 m hO c (t.val - 1) (Nat.lt_of_le_of_lt (Nat.sub_le _ _) t.isLt)).2.1 := by
  rw [outsAt0_E m hO c t h0 h1 h2]
  rfl

/-- Case E: the maxima. -/
theorem mE (h0 : ¬t.val % 16 = 0) (h1 : cond0_1 (grid0.coords t) (lenAt m hO t)) (h2 : t.val % 16 = 15) :
    (outsAt0 m hO c t.val t.isLt).2.2.1 = stM (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 := by
  rw [outsAt0_E m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case E: the denominators. -/
theorem lE (h0 : ¬t.val % 16 = 0) (h1 : cond0_1 (grid0.coords t) (lenAt m hO t)) (h2 : t.val % 16 = 15) :
    (outsAt0 m hO c t.val t.isLt).2.2.2.1 = stL (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 := by
  rw [outsAt0_E m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case E: the weighted sums. -/
theorem aE (h0 : ¬t.val % 16 = 0) (h1 : cond0_1 (grid0.coords t) (lenAt m hO t)) (h2 : t.val % 16 = 15) :
    (outsAt0 m hO c t.val t.isLt).2.2.2.2 = stA (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (bV m hO c t) (bVs m hO c t) (outsAt0 m hO c (t.val - 1) (Nat.lt_of_le_of_lt (Nat.sub_le _ _) t.isLt)).2.2.2.2 := by
  rw [outsAt0_E m hO c t h0 h1 h2]
  frame_out
  simp only [read_unread_whole]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

set_option maxHeartbeats 2000000 in
/-- Case E: the output row. -/
theorem outE (h0 : ¬t.val % 16 = 0) (h1 : cond0_1 (grid0.coords t) (lenAt m hO t)) (h2 : t.val % 16 = 15) :
    (outsAt0 m hO c t.val t.isLt).1 = fin (bX m hO c t) (bKn m hO c t) (bVn m hO c t) (stM (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1) (stL (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1) (stA (chAt m hO t) (lenAt m hO t) (bK m hO c t) (bKs m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1 (bV m hO c t) (bVs m hO c t) (outsAt0 m hO c (t.val - 1) (Nat.lt_of_le_of_lt (Nat.sub_le _ _) t.isLt)).2.2.2.2) := by
  rw [outsAt0_E m hO c t h0 h1 h2]
  frame_out
  simp only [read_unread_whole]
  simp only [readCov_canon, score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A, canon_acc, ld_all]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

/-- Case D: the queries. -/
theorem qD (h0 : ¬t.val % 16 = 0) (h1 : ¬cond0_1 (grid0.coords t) (lenAt m hO t)) (h2 : ¬t.val % 16 = 15) :
    (outsAt0 m hO c t.val t.isLt).2.1 = (outsAt0 m hO c (t.val - 1) (Nat.lt_of_le_of_lt (Nat.sub_le _ _) t.isLt)).2.1 := by
  rw [outsAt0_D m hO c t h0 h1 h2]
  rfl

/-- Case D: the maxima. -/
theorem mD (h0 : ¬t.val % 16 = 0) (h1 : ¬cond0_1 (grid0.coords t) (lenAt m hO t)) (h2 : ¬t.val % 16 = 15) :
    (outsAt0 m hO c t.val t.isLt).2.2.1 = (outsAt0 m hO c (t.val - 1) (Nat.lt_of_le_of_lt (Nat.sub_le _ _) t.isLt)).2.2.1 := by
  rw [outsAt0_D m hO c t h0 h1 h2]
  rfl

/-- Case D: the denominators. -/
theorem lD (h0 : ¬t.val % 16 = 0) (h1 : ¬cond0_1 (grid0.coords t) (lenAt m hO t)) (h2 : ¬t.val % 16 = 15) :
    (outsAt0 m hO c t.val t.isLt).2.2.2.1 = (outsAt0 m hO c (t.val - 1) (Nat.lt_of_le_of_lt (Nat.sub_le _ _) t.isLt)).2.2.2.1 := by
  rw [outsAt0_D m hO c t h0 h1 h2]
  rfl

/-- Case D: the weighted sums. -/
theorem aD (h0 : ¬t.val % 16 = 0) (h1 : ¬cond0_1 (grid0.coords t) (lenAt m hO t)) (h2 : ¬t.val % 16 = 15) :
    (outsAt0 m hO c t.val t.isLt).2.2.2.2 = (outsAt0 m hO c (t.val - 1) (Nat.lt_of_le_of_lt (Nat.sub_le _ _) t.isLt)).2.2.2.2 := by
  rw [outsAt0_D m hO c t h0 h1 h2]
  rfl

/-- Case F: the queries. -/
theorem qF (h0 : ¬t.val % 16 = 0) (h1 : ¬cond0_1 (grid0.coords t) (lenAt m hO t)) (h2 : t.val % 16 = 15) :
    (outsAt0 m hO c t.val t.isLt).2.1 = (outsAt0 m hO c (t.val - 1) (Nat.lt_of_le_of_lt (Nat.sub_le _ _) t.isLt)).2.1 := by
  rw [outsAt0_F m hO c t h0 h1 h2]
  rfl

/-- Case F: the maxima. -/
theorem mF (h0 : ¬t.val % 16 = 0) (h1 : ¬cond0_1 (grid0.coords t) (lenAt m hO t)) (h2 : t.val % 16 = 15) :
    (outsAt0 m hO c t.val t.isLt).2.2.1 = (outsAt0 m hO c (t.val - 1) (Nat.lt_of_le_of_lt (Nat.sub_le _ _) t.isLt)).2.2.1 := by
  rw [outsAt0_F m hO c t h0 h1 h2]
  rfl

/-- Case F: the denominators. -/
theorem lF (h0 : ¬t.val % 16 = 0) (h1 : ¬cond0_1 (grid0.coords t) (lenAt m hO t)) (h2 : t.val % 16 = 15) :
    (outsAt0 m hO c t.val t.isLt).2.2.2.1 = (outsAt0 m hO c (t.val - 1) (Nat.lt_of_le_of_lt (Nat.sub_le _ _) t.isLt)).2.2.2.1 := by
  rw [outsAt0_F m hO c t h0 h1 h2]
  rfl

/-- Case F: the weighted sums. -/
theorem aF (h0 : ¬t.val % 16 = 0) (h1 : ¬cond0_1 (grid0.coords t) (lenAt m hO t)) (h2 : t.val % 16 = 15) :
    (outsAt0 m hO c t.val t.isLt).2.2.2.2 = (outsAt0 m hO c (t.val - 1) (Nat.lt_of_le_of_lt (Nat.sub_le _ _) t.isLt)).2.2.2.2 := by
  rw [outsAt0_F m hO c t h0 h1 h2]
  rfl

/-- Case F: the output row. -/
theorem outF (h0 : ¬t.val % 16 = 0) (h1 : ¬cond0_1 (grid0.coords t) (lenAt m hO t)) (h2 : t.val % 16 = 15) :
    (outsAt0 m hO c t.val t.isLt).1 = fin (bX m hO c t) (bKn m hO c t) (bVn m hO c t) (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 := by
  rw [outsAt0_F m hO c t h0 h1 h2]
  frame_out
  simp only [read_unread_whole]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

/-- Case B: the queries. -/
theorem qB (h0 : t.val % 16 = 0) (h1 : ¬cond0_1 (grid0.coords t) (lenAt m hO t)) (h2 : ¬t.val % 16 = 15) :
    (outsAt0 m hO c t.val t.isLt).2.1 = q0 (bX m hO c t) := by
  rw [outsAt0_B m hO c t h0 h1 h2]
  frame_out
  simp only [fold_q]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

/-- Case B: the maxima. -/
theorem mB (h0 : t.val % 16 = 0) (h1 : ¬cond0_1 (grid0.coords t) (lenAt m hO t)) (h2 : ¬t.val % 16 = 15) :
    (outsAt0 m hO c t.val t.isLt).2.2.1 = m0 (bX m hO c t) (bKn m hO c t) := by
  rw [outsAt0_B m hO c t h0 h1 h2]
  frame_out
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

/-- Case B: the denominators. -/
theorem lB (h0 : t.val % 16 = 0) (h1 : ¬cond0_1 (grid0.coords t) (lenAt m hO t)) (h2 : ¬t.val % 16 = 15) :
    (outsAt0 m hO c t.val t.isLt).2.2.2.1 = (k0_pay2 (F := Ideal)) := by
  rw [outsAt0_B m hO c t h0 h1 h2]
  frame_out

/-- Case B: the weighted sums. -/
theorem aB (h0 : t.val % 16 = 0) (h1 : ¬cond0_1 (grid0.coords t) (lenAt m hO t)) (h2 : ¬t.val % 16 = 15) :
    (outsAt0 m hO c t.val t.isLt).2.2.2.2 = (k0_pay3 (F := Ideal)) := by
  rw [outsAt0_B m hO c t h0 h1 h2]
  frame_out

/-- Case A: the queries. -/
theorem qA (h0 : t.val % 16 = 0) (h1 : cond0_1 (grid0.coords t) (lenAt m hO t)) (h2 : ¬t.val % 16 = 15) :
    (outsAt0 m hO c t.val t.isLt).2.1 = q0 (bX m hO c t) := by
  rw [outsAt0_A m hO c t h0 h1 h2]
  frame_out
  simp only [fold_q]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]

set_option maxHeartbeats 2000000 in
/-- Case A: the maxima. -/
theorem mA (h0 : t.val % 16 = 0) (h1 : cond0_1 (grid0.coords t) (lenAt m hO t)) (h2 : ¬t.val % 16 = 15) :
    (outsAt0 m hO c t.val t.isLt).2.2.1 = stM (chAt m hO t) (lenAt m hO t) (bK m hO c t) (bKs m hO c t) (q0 (bX m hO c t)) (m0 (bX m hO c t) (bKn m hO c t)) := by
  rw [outsAt0_A m hO c t h0 h1 h2]
  frame_open
  simp (disch := decide) only [↓readCov_q, ↓skip8, ↓View.readCov_fill]
  frame_out
  simp only [fold_q]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

set_option maxHeartbeats 2000000 in
/-- Case A: the denominators. -/
theorem lA (h0 : t.val % 16 = 0) (h1 : cond0_1 (grid0.coords t) (lenAt m hO t)) (h2 : ¬t.val % 16 = 15) :
    (outsAt0 m hO c t.val t.isLt).2.2.2.1 = stL (chAt m hO t) (lenAt m hO t) (bK m hO c t) (bKs m hO c t) (q0 (bX m hO c t)) (m0 (bX m hO c t) (bKn m hO c t)) (k0_pay2 (F := Ideal)) := by
  rw [outsAt0_A m hO c t h0 h1 h2]
  frame_open
  simp (disch := decide) only [↓readCov_q, ↓skip8, ↓View.readCov_fill]
  frame_out
  simp only [fold_q]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

set_option maxHeartbeats 2000000 in
/-- Case A: the weighted sums. -/
theorem aA (h0 : t.val % 16 = 0) (h1 : cond0_1 (grid0.coords t) (lenAt m hO t)) (h2 : ¬t.val % 16 = 15) :
    (outsAt0 m hO c t.val t.isLt).2.2.2.2 = stA (chAt m hO t) (lenAt m hO t) (bK m hO c t) (bKs m hO c t) (q0 (bX m hO c t)) (m0 (bX m hO c t) (bKn m hO c t)) (bV m hO c t) (bVs m hO c t) (k0_pay3 (F := Ideal)) := by
  rw [outsAt0_A m hO c t h0 h1 h2]
  frame_open
  simp (disch := decide) only [↓readCov_q, ↓skip8, ↓View.readCov_fill]
  frame_out
  simp only [fold_q]
  simp only [score0, score1, score2, score3, score4, score5, score6, score7, dot1, ldr0, ldr1, ldr2, ldr3, ldr4, ldr5, ldr6, ldr7, lds0, lds1, lds2, lds3, lds4, lds5, lds6, lds7, lsc0, lsc1, lsc2, lsc3, lsc4, lsc5, lsc6, lsc7, max1, max2, max3, max4, max5, max6, max7, fac1, fac2, fac3, fac4, fac5, fac6, fac7, den1, den2, den3, den4, den5, den6, den7, wt1, wt2, wt3, wt4, wt5, wt6, wt7]
  simp only [canon_eight, fold_M, fold_L, fold_A]
  simp only [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

end Cert.KernelIdeal.Val

end
-- ==== Proof.Blocks.lean ====
/- The blocks a grid point reads, at coordinates of the argument arrays. -/
module

public import proofs.«01_k».proof.Proof.Cases
public import proofs.«01_k».proof.Proof.OkKernelIdeal

@[expose] public section

set_option maxRecDepth 16384

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Facts
open Cert.Soft

/-- A grid point is a batch row and a chunk of it. -/
theorem coords_val (t : Fin grid0.N) : (grid0.coords t 0).val = t.val / 16 ∧ (grid0.coords t 1).val = t.val % 16 := by
  have ht : t.val < 256 := Nat.lt_of_lt_of_eq t.isLt N_0
  have e0 : (grid0.coords t 0).val = t.val / 16 % 16 := Pipeline.Grid.coords_val t 0 (by decide) rfl
  have e1 : (grid0.coords t 1).val = t.val / 1 % 16 := Pipeline.Grid.coords_val t 1 (by decide) rfl
  omega

variable (m : (ℓ : Loc nD τ sig) → Buf (Elt Ideal) ℓ) (hO : Ok m) (c : Dev nD) (t : Fin (cfgM m hO).N)

/-- The batch row of a point. -/
def bat : Fin 16 := ⟨(grid0.coords t 0).val, (grid0.coords t 0).isLt⟩
/-- The chunk of a point. -/
def chk : Fin 16 := ⟨(grid0.coords t 1).val, (grid0.coords t 1).isLt⟩

/-- The queries, as the region finds them. -/
theorem V6 (b : Fin 16) (R d : Fin 64) : V m c main_v6 (ix3 b R d) = m ((c : Thread nD τ).loc main_arg0) (ix4 b 0 R d) := by
  show StableHlo.after hostOps0 (fun b => m (c, b)) (Proc.devRef .tc main_v6) _ = _
  after_results
  pointwise []
/-- The new keys, as the region finds them. -/
theorem V7 (b : Fin 16) (h : Fin 8) (d : Fin 64) : V m c main_v7 (ix3 b h d) = m ((c : Thread nD τ).loc main_arg1) (ix4 b 0 h d) := by
  show StableHlo.after hostOps0 (fun b => m (c, b)) (Proc.devRef .tc main_v7) _ = _
  after_results
  pointwise []
/-- The new values, as the region finds them. -/
theorem V8 (b : Fin 16) (h : Fin 8) (d : Fin 64) : V m c main_v8 (ix3 b h d) = m ((c : Thread nD τ).loc main_arg2) (ix4 b 0 h d) := by
  show StableHlo.after hostOps0 (fun b => m (c, b)) (Proc.devRef .tc main_v8) _ = _
  after_results
  pointwise []
/-- The keys, as the region finds them. -/
theorem V1 (b : Fin 16) (h : Fin 8) (d : Fin 64) (p : Fin 32768) : V m c main_v1 (ix3 b ⟨64 * h.val + d.val, by omega⟩ p) = m ((c : Thread nD τ).loc main_arg3) (ix4 b p h d) := by
  show StableHlo.after hostOps0 (fun b => m (c, b)) (Proc.devRef .tc main_v1) _ = _
  after_results
  pointwise []
/-- The values, as the region finds them. -/
theorem V3 (b : Fin 16) (h : Fin 8) (d : Fin 64) (p : Fin 32768) : V m c main_v3 (ix3 b ⟨64 * h.val + d.val, by omega⟩ p) = m ((c : Thread nD τ).loc main_arg5) (ix4 b p h d) := by
  show StableHlo.after hostOps0 (fun b => m (c, b)) (Proc.devRef .tc main_v3) _ = _
  after_results
  pointwise []
/-- The key scales, as the region finds them. -/
theorem V4 (b : Fin 16) (h : Fin 8) (p : Fin 32768) : V m c main_v4 (ix3 b h p) = m ((c : Thread nD τ).loc main_arg4) (ix3 b p h) := by
  show StableHlo.after hostOps0 (fun b => m (c, b)) (Proc.devRef .tc main_v4) _ = _
  after_results
  pointwise []
/-- The value scales, as the region finds them. -/
theorem V5 (b : Fin 16) (h : Fin 8) (p : Fin 32768) : V m c main_v5 (ix3 b h p) = m ((c : Thread nD τ).loc main_arg6) (ix3 b p h) := by
  show StableHlo.after hostOps0 (fun b => m (c, b)) (Proc.devRef .tc main_v5) _ = _
  after_results
  pointwise []

/-- A batch row as a word is itself. -/
theorem bat_word : (BitVec.ofNat 32 (grid0.coords t 0).val).toNat = (bat m hO t).val := by
  have h : (grid0.coords t 0).val < 16 := (grid0.coords t 0).isLt
  rw [BitVec.toNat_ofNat, Nat.mod_eq_of_lt (by omega)]; rfl
/-- A chunk as a word is itself. -/
theorem chk_word : (chAt m hO t).toNat = (chk m hO t).val := by
  have h : (grid0.coords t 1).val < 16 := (grid0.coords t 1).isLt
  show (BitVec.ofNat 32 (grid0.coords t 1).val).toNat = (grid0.coords t 1).val
  rw [BitVec.toNat_ofNat, Nat.mod_eq_of_lt (by omega)]

/-- The queries of a point are its batch row's. -/
theorem bX_apply (R : Fin 64) (d : Fin 64) : bX m hO c t (ix3 0 R d) = V m c main_v6 (ix3 (bat m hO t) R d) := by
  show V m c main_v6 ((((cfgM m hO).win 0).blk t).view.emb (ix3 0 R d)) = _
  refine congrArg _ ?_
  funext a
  refine Fin.ext ?_
  blk_simp
  match a with
  | ⟨0, _⟩ => show (BitVec.ofNat 32 (grid0.coords t 0).val).toNat * 1 + 0 = (bat m hO t).val; rw [bat_word]; omega
  | ⟨1, _⟩ => show 0 * 64 + R.val = R.val; omega
  | ⟨2, _⟩ => show 0 * 64 + d.val = d.val; omega
/-- The new keys of a point are its batch row's. -/
theorem bKn_apply (h : Fin 8) (d : Fin 64) : bKn m hO c t (ix3 0 h d) = V m c main_v7 (ix3 (bat m hO t) h d) := by
  show V m c main_v7 ((((cfgM m hO).win 1).blk t).view.emb (ix3 0 h d)) = _
  refine congrArg _ ?_
  funext a
  refine Fin.ext ?_
  blk_simp
  match a with
  | ⟨0, _⟩ => show (BitVec.ofNat 32 (grid0.coords t 0).val).toNat * 1 + 0 = (bat m hO t).val; rw [bat_word]; omega
  | ⟨1, _⟩ => show 0 * 8 + h.val = h.val; omega
  | ⟨2, _⟩ => show 0 * 64 + d.val = d.val; omega
/-- The new values of a point are its batch row's. -/
theorem bVn_apply (h : Fin 8) (d : Fin 64) : bVn m hO c t (ix3 0 h d) = V m c main_v8 (ix3 (bat m hO t) h d) := by
  show V m c main_v8 ((((cfgM m hO).win 2).blk t).view.emb (ix3 0 h d)) = _
  refine congrArg _ ?_
  funext a
  refine Fin.ext ?_
  blk_simp
  match a with
  | ⟨0, _⟩ => show (BitVec.ofNat 32 (grid0.coords t 0).val).toNat * 1 + 0 = (bat m hO t).val; rw [bat_word]; omega
  | ⟨1, _⟩ => show 0 * 8 + h.val = h.val; omega
  | ⟨2, _⟩ => show 0 * 64 + d.val = d.val; omega

/-- What a point's index maps read is the length it works on. -/
theorem len_eq : Cert.KernelIdeal.Side.len (F := Ideal) (tbl m) (grid0.coords t) = lenAt m hO t := rfl

variable (hc : Cert.Chunk.chunkIx (chAt m hO t) (lenAt m hO t) = chAt m hO t)
include hc

/-- Where the clamp does not bind, a point's blocks of the cache and of its scales are those of its batch row and chunk. -/
theorem ix_own : (![(BitVec.ofNat 32 (grid0.coords t 0).val).toNat, 0,
    (Cert.Chunk.chunkIx (BitVec.ofNat 32 (grid0.coords t 1).val) (Cert.KernelIdeal.Side.len (F := Ideal) (tbl m) (grid0.coords t))).toNat] : Fin 3 → ℕ) =
      ![(bat m hO t).val, 0, (chk m hO t).val] := by
  rw [len_eq m hO t, bat_word m hO t]
  rw [show Cert.Chunk.chunkIx (BitVec.ofNat 32 (grid0.coords t 1).val) (lenAt m hO t) = chAt m hO t from hc, chk_word m hO t]

/-- The chunk of keys of a point. -/
theorem bK_apply (u : Fin 512) (i : Fin 2048) : bK m hO c t (ix3 0 u i) = V m c main_v1 (ix3 (bat m hO t) u (at2 (chk m hO t) i)) := by
  show V m c main_v1 ((((cfgM m hO).win 3).blk t).view.emb (ix3 0 u i)) = _
  refine congrArg _ ?_
  funext a
  refine Fin.ext ?_
  blk_simp
  have e := (Cert.KernelIdeal.Side.t3 (F := Ideal) (tbl m) (grid0.coords t)).trans (ix_own m hO t hc)
  match a with
  | ⟨0, _⟩ =>
    show cc0_transform_3 k0_off1_inb numel1_S1 (tbl m) (grid0.coords t) 0 * 1 + 0 = (bat m hO t).val
    rw [e]; show (bat m hO t).val * 1 + 0 = _; omega
  | ⟨1, _⟩ =>
    show cc0_transform_3 k0_off1_inb numel1_S1 (tbl m) (grid0.coords t) 1 * 512 + u.val = u.val
    rw [e]; show 0 * 512 + u.val = u.val; omega
  | ⟨2, _⟩ =>
    show cc0_transform_3 k0_off1_inb numel1_S1 (tbl m) (grid0.coords t) 2 * 2048 + i.val = 2048 * (chk m hO t).val + i.val
    rw [e]; show (chk m hO t).val * 2048 + i.val = _; omega
/-- The scales of the keys of a point. -/
theorem bKs_apply (u : Fin 8) (i : Fin 2048) : bKs m hO c t (ix3 0 u i) = V m c main_v4 (ix3 (bat m hO t) u (at2 (chk m hO t) i)) := by
  show V m c main_v4 ((((cfgM m hO).win 4).blk t).view.emb (ix3 0 u i)) = _
  refine congrArg _ ?_
  funext a
  refine Fin.ext ?_
  blk_simp
  have e := (Cert.KernelIdeal.Side.t4 (F := Ideal) (tbl m) (grid0.coords t)).trans (ix_own m hO t hc)
  match a with
  | ⟨0, _⟩ =>
    show cc0_transform_4 k0_off1_inb numel1_S1 (tbl m) (grid0.coords t) 0 * 1 + 0 = (bat m hO t).val
    rw [e]; show (bat m hO t).val * 1 + 0 = _; omega
  | ⟨1, _⟩ =>
    show cc0_transform_4 k0_off1_inb numel1_S1 (tbl m) (grid0.coords t) 1 * 8 + u.val = u.val
    rw [e]; show 0 * 8 + u.val = u.val; omega
  | ⟨2, _⟩ =>
    show cc0_transform_4 k0_off1_inb numel1_S1 (tbl m) (grid0.coords t) 2 * 2048 + i.val = 2048 * (chk m hO t).val + i.val
    rw [e]; show (chk m hO t).val * 2048 + i.val = _; omega
/-- The chunk of values of a point. -/
theorem bV_apply (u : Fin 512) (i : Fin 2048) : bV m hO c t (ix3 0 u i) = V m c main_v3 (ix3 (bat m hO t) u (at2 (chk m hO t) i)) := by
  show V m c main_v3 ((((cfgM m hO).win 5).blk t).view.emb (ix3 0 u i)) = _
  refine congrArg _ ?_
  funext a
  refine Fin.ext ?_
  blk_simp
  have e := (Cert.KernelIdeal.Side.t5 (F := Ideal) (tbl m) (grid0.coords t)).trans (ix_own m hO t hc)
  match a with
  | ⟨0, _⟩ =>
    show cc0_transform_5 k0_off1_inb numel1_S1 (tbl m) (grid0.coords t) 0 * 1 + 0 = (bat m hO t).val
    rw [e]; show (bat m hO t).val * 1 + 0 = _; omega
  | ⟨1, _⟩ =>
    show cc0_transform_5 k0_off1_inb numel1_S1 (tbl m) (grid0.coords t) 1 * 512 + u.val = u.val
    rw [e]; show 0 * 512 + u.val = u.val; omega
  | ⟨2, _⟩ =>
    show cc0_transform_5 k0_off1_inb numel1_S1 (tbl m) (grid0.coords t) 2 * 2048 + i.val = 2048 * (chk m hO t).val + i.val
    rw [e]; show (chk m hO t).val * 2048 + i.val = _; omega
/-- The scales of the values of a point. -/
theorem bVs_apply (u : Fin 8) (i : Fin 2048) : bVs m hO c t (ix3 0 u i) = V m c main_v5 (ix3 (bat m hO t) u (at2 (chk m hO t) i)) := by
  show V m c main_v5 ((((cfgM m hO).win 6).blk t).view.emb (ix3 0 u i)) = _
  refine congrArg _ ?_
  funext a
  refine Fin.ext ?_
  blk_simp
  have e := (Cert.KernelIdeal.Side.t6 (F := Ideal) (tbl m) (grid0.coords t)).trans (ix_own m hO t hc)
  match a with
  | ⟨0, _⟩ =>
    show cc0_transform_6 k0_off1_inb numel1_S1 (tbl m) (grid0.coords t) 0 * 1 + 0 = (bat m hO t).val
    rw [e]; show (bat m hO t).val * 1 + 0 = _; omega
  | ⟨1, _⟩ =>
    show cc0_transform_6 k0_off1_inb numel1_S1 (tbl m) (grid0.coords t) 1 * 8 + u.val = u.val
    rw [e]; show 0 * 8 + u.val = u.val; omega
  | ⟨2, _⟩ =>
    show cc0_transform_6 k0_off1_inb numel1_S1 (tbl m) (grid0.coords t) 2 * 2048 + i.val = 2048 * (chk m hO t).val + i.val
    rw [e]; show (chk m hO t).val * 2048 + i.val = _; omega

omit hc in
/-- The length of a point's batch row. -/
theorem lenAt_eq : lenAt m hO t = m (((0 : Dev nD) : Thread nD τ).loc main_arg7) (ix1 (bat m hO t)) := by
  have e0 : k0_off1 (grid0.coords t) 0 = (bat m hO t).val := bat_word m hO t
  refine Eq.trans (congrFun (V_main_arg7 m 0) ((Rect.unit (s := S16) (k0_off1 (grid0.coords t)) S1.size (k0_off1_inb (grid0.coords t))).idx
    (Shape.Idx.first (numel1_S1.symm ▸ Nat.one_pos)))) ?_
  refine congrArg _ ?_
  funext a
  refine Fin.ext ?_
  match a with
  | ⟨0, _⟩ => exact (Rect.idx_unit_val _ _ _ _ _).trans (by show k0_off1 (grid0.coords t) 0 + 0 = (bat m hO t).val; rw [e0]; omega)

end Cert.KernelIdeal.Val

end
-- ==== Proof.Inv.lean ====
/- The running maximum, denominator and weighted sum after each chunk of a batch row. -/
module

public import proofs.«01_k».proof.Proof.Spec
public import proofs.«01_k».proof.Proof.Apply
public import proofs.«01_k».proof.Proof.Blocks

@[expose] public section

set_option maxRecDepth 16384

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Facts
open Cert.Soft

/-- The carried buffers after `k` chunks of batch row `b`. -/
structure Inv (a : Args) (b : Fin 16) (k : ℕ) (q : Vec Ideal S2x32x256 .bf16) (mm ll : Vec Ideal S64x128 .f32) (aa : Vec Ideal S512x64 .f32) : Prop where
  q : q = bd fun i => a.x (ix4 b 0 (i 1) (i 2))
  m : ∀ R l, mm (ix2 R l) = M (a.nw b R) (cut ⊥ (a.S b R)) k
  l : ∀ R l, ll (ix2 R l) = L (M (a.nw b R) (cut ⊥ (a.S b R)) k) (cut ⊥ (a.S b R)) k l
  acc : ∀ R (h : Fin 8) (d : Fin 64), aa (ix2 ⟨64 * h.val + d.val, by omega⟩ R) =
    A (M (a.nw b R) (cut ⊥ (a.S b R)) k) (cut ⊥ (a.S b R)) (cut 0 (a.W b R)) (cut 0 (a.U b d h)) k

/-- Before the first chunk: the new token's score, and nothing summed. -/
theorem inv_init (a : Args) (b : Fin 16) (x : Vec Ideal S1x64x64 .bf16) (kn : Vec Ideal S1x8x64 .bf16)
    (hx : x = fun i => a.x (ix4 b 0 (i 1) (i 2))) (hkn : ∀ h d, kn (ix3 0 h d) = a.kn (ix4 b 0 h d)) :
    Inv a b 0 (q0 x) (m0 x kn) (k0_pay2 (F := Ideal)) (k0_pay3 (F := Ideal)) where
  q := by rw [q0_eq, hx]
  m R l := by
    rw [m0_apply, hx]
    simp only [hkn]
    rfl
  l R l := by rw [l0_apply]; exact (Finset.sum_range_zero _).symm
  acc R h d := by rw [a0_apply]; exact (Finset.sum_range_zero _).symm

/-- A chunk past the length changes nothing. -/
theorem inv_skip {a : Args} {b : Fin 16} {k : ℕ} {q : Vec Ideal S2x32x256 .bf16} {mm ll : Vec Ideal S64x128 .f32} {aa : Vec Ideal S512x64 .f32}
    (I : Inv a b k q mm ll aa) (h : ∀ R i, cut ⊥ (a.S b R) k i = ⊥) : Inv a b (k + 1) q mm ll aa where
  q := I.q
  m R l := by rw [M_skip (h R)]; exact I.m R l
  l R l := by rw [M_skip (h R), L_skip (h R)]; exact I.l R l
  acc R u d := by rw [M_skip (h R), A_skip (h R)]; exact I.acc R u d

/-- A chunk within the length is folded in. -/
theorem inv_take {a : Args} (g : a.Good) {b : Fin 16} {k : ℕ} {q : Vec Ideal S2x32x256 .bf16} {mm ll : Vec Ideal S64x128 .f32} {aa : Vec Ideal S512x64 .f32}
    (I : Inv a b k q mm ll aa) (ch n : BitVec 32) (K V : Vec Ideal S1x512x2048 .i8) (ks vs : Vec Ideal S1x8x2048 .f32)
    (hS : ∀ R i, sc ch n K ks (bd fun i => a.x (ix4 b 0 (i 1) (i 2))) R i = cut ⊥ (a.S b R) k i)
    (hW : ∀ R i, vs (ix3 0 (Args.kv R) i) = cut 0 (a.W b R) k i)
    (hU : ∀ (h : Fin 8) (d : Fin 64) i, (((V (ix3 0 ⟨64 * h.val + d.val, by omega⟩ i)).toInt : ℝ) : EReal) = cut 0 (a.U b d h) k i) :
    Inv a b (k + 1) q (stM ch n K ks q mm) (stL ch n K ks q mm ll) (stA ch n K ks q mm V vs aa) := by
  obtain rfl := I.q
  have hm : ∀ R l, stM ch n K ks (bd fun i => a.x (ix4 b 0 (i 1) (i 2))) mm (ix2 R l) = M (a.nw b R) (cut ⊥ (a.S b R)) (k + 1) := by
    intro R l
    rw [stM_apply, I.m, funext (hS R)]
    rfl
  refine ⟨rfl, hm, ?_, ?_⟩
  · intro R l
    rw [stL_apply, hm, hm, I.m, I.l, L_step (Args.cut_ne_top b R g) (Args.M_real b R g k).1 (Args.M_real b R g k).2 (Args.M_real b R g (k + 1)).1 (Args.M_real b R g (k + 1)).2]
    simp only [hS]
  · intro R h d
    rw [stA_apply, hm, I.m, I.acc, A_step (Args.cut_ne_top b R g) (Args.M_real b R g k).1 (Args.M_real b R g k).2 (Args.M_real b R g (k + 1)).1 (Args.M_real b R g (k + 1)).2]
    refine congrArg _ (Finset.sum_congr rfl fun i _ => ?_)
    rw [hS, hU, ← hW]
    rfl

/-- The output row of a batch, from the carried buffers after all sixteen chunks. -/
theorem fin_res {a : Args} (g : a.Good) {b : Fin 16} {q : Vec Ideal S2x32x256 .bf16} {mm ll : Vec Ideal S64x128 .f32} {aa : Vec Ideal S512x64 .f32}
    (I : Inv a b 16 q mm ll aa) (x : Vec Ideal S1x64x64 .bf16) (kn vn : Vec Ideal S1x8x64 .bf16)
    (hx : ∀ R d, x (ix3 0 R d) = a.x (ix4 b 0 R d)) (hkn : ∀ h d, kn (ix3 0 h d) = a.kn (ix4 b 0 h d)) (hvn : ∀ h d, vn (ix3 0 h d) = a.vn (ix4 b 0 h d))
    (R d : Fin 64) : fin x kn vn mm ll aa (ix3 0 R d) = a.res b R d := by
  rw [Args.res_eq b R d g, fin_apply x kn vn mm ll aa R d (Ideal.exp (a.nw b R - a.T b R)) (a.D b R)]
  · have e := I.acc R (Args.kv R) d
    rw [show (ix2 (⟨64 * (R.val / 8) + d.val, by omega⟩ : Fin 512) R) = ix2 ⟨64 * (Args.kv R).val + d.val, by omega⟩ R from rfl, e]
    rw [show (⟨R.val / 8, by omega⟩ : Fin 8) = Args.kv R from rfl, hvn]
  · rw [I.m, M_all]
    simp only [hx, hkn]
    rfl
  · rw [Args.D_eq]
    simp only [I.l]
    rw [show a.T b R = M (a.nw b R) (cut ⊥ (a.S b R)) 16 from (M_all _ _).symm]

end Cert.KernelIdeal.Val

end
-- ==== Proof.Points.lean ====
/- The carried buffers at every grid point. -/
module

public import proofs.«01_k».proof.Proof.Inv

@[expose] public section

set_option maxRecDepth 16384

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Facts
open Cert.Soft

/-- The start of a chunk, as the program computes it. -/
theorem start_toInt (a : BitVec 32) (ha : a.toNat < 16) (i : ℕ) (hi : i < 2048) :
    (a * 2048#32 + BitVec.ofNat 32 i).toInt = ((2048 * a.toNat + i : ℕ) : ℤ) := by
  have h : (a * 2048#32 + BitVec.ofNat 32 i).toNat = 2048 * a.toNat + i := by
    simp only [BitVec.toNat_add, BitVec.toNat_mul, BitVec.toNat_ofNat]; omega
  rw [BitVec.toInt_eq_toNat_cond, h]; split <;> omega

/-- The mask compares the position with the length. -/
theorem valid_iff (a n : BitVec 32) (ha : a.toNat < 16) (i : Fin 2048) : valid a n i = 1#1 ↔ ((2048 * a.toNat + i.val : ℕ) : ℤ) < n.toInt := by
  have e : valid a n i = BitVec.ofBool ((a * 2048#32 + BitVec.ofNat 32 i.val).slt n) := rfl
  rw [e, ← start_toInt a ha i.val i.isLt, ← BitVec.slt_iff_toInt_lt]
  cases (a * 2048#32 + BitVec.ofNat 32 i.val).slt n <;> decide

/-- A chunk is worked on exactly when it starts below the length. -/
theorem start_iff (a n : BitVec 32) (ha : a.toNat < 16) :
    (Scalar.cmpi .ne (Scalar.extui (Scalar.cmpi .slt (Scalar.muli a 2048#32) n)) 0#32 : BitVec 1) = 1#1 ↔ (a.toNat : ℤ) * 2048 < n.toInt := by
  have e : (Scalar.cmpi .ne (Scalar.extui (Scalar.cmpi .slt (Scalar.muli a 2048#32) n)) 0#32 : BitVec 1) =
      Scalar.cmpi .ne (Scalar.extui (BitVec.ofBool ((a * 2048#32).slt n))) 0#32 := rfl
  have h := start_toInt a ha 0 (by omega)
  rw [show a * 2048#32 + BitVec.ofNat 32 0 = a * 2048#32 from BitVec.add_zero _] at h
  rw [e, show (a.toNat : ℤ) * 2048 = (a * 2048#32).toInt by rw [h]; push_cast; ring, ← BitVec.slt_iff_toInt_lt]
  cases (a * 2048#32).slt n <;> decide

variable (m : (ℓ : Loc nD τ sig) → Buf (Elt Ideal) ℓ) (hO : Ok m) (c : Dev nD)

/-- The argument arrays of a memory. -/
def argsOf : Args where
  x := m ((c : Thread nD τ).loc main_arg0)
  kn := m ((c : Thread nD τ).loc main_arg1)
  vn := m ((c : Thread nD τ).loc main_arg2)
  k := m ((c : Thread nD τ).loc main_arg3)
  ks := m ((c : Thread nD τ).loc main_arg4)
  v := m ((c : Thread nD τ).loc main_arg5)
  vs := m ((c : Thread nD τ).loc main_arg6)
  len := m ((c : Thread nD τ).loc main_arg7)

variable (t : Fin (cfgM m hO).N)

/-- The length of a point's batch row. -/
theorem len_at : (argsOf m c).len (ix1 (bat m hO t)) = lenAt m hO t := by
  obtain rfl : c = 0 := Subsingleton.elim _ _
  exact (lenAt_eq m hO t).symm

/-- A point's queries, as a function. -/
theorem bX_fun : bX m hO c t = fun i => (argsOf m c).x (ix4 (bat m hO t) 0 (i 1) (i 2)) := by
  funext i
  idx_vars i
  rw [show i0 = 0 from Subsingleton.elim _ _, bX_apply, V6]
  rfl

/-- A point's new keys. -/
theorem bKn_at (h : Fin 8) (d : Fin 64) : bKn m hO c t (ix3 0 h d) = (argsOf m c).kn (ix4 (bat m hO t) 0 h d) := by
  rw [bKn_apply, V7]; rfl
/-- A point's new values. -/
theorem bVn_at (h : Fin 8) (d : Fin 64) : bVn m hO c t (ix3 0 h d) = (argsOf m c).vn (ix4 (bat m hO t) 0 h d) := by
  rw [bVn_apply, V8]; rfl

/-- A chunk that starts past the length has no score. -/
theorem cut_bot (h1 : ¬cond0_1 (grid0.coords t) (lenAt m hO t)) (R : Fin 64) (i : Fin 2048) :
    cut ⊥ ((argsOf m c).S (bat m hO t) R) (chk m hO t).val i = ⊥ := by
  rw [cut_at _ _ (chk m hO t).isLt]
  unfold Args.S
  rw [if_neg, ]
  rw [len_at]
  have h := mt (start_iff (chAt m hO t) (lenAt m hO t) (by rw [chk_word]; exact (chk m hO t).isLt)).2 h1
  rw [chk_word] at h
  show ¬((2048 * (chk m hO t).val + i.val : ℕ) : ℤ) < _
  push_cast
  omega

section Take

variable (g : (argsOf m c).Good) (h1 : cond0_1 (grid0.coords t) (lenAt m hO t))
include g h1

/-- A chunk worked on is read from its own place. -/
theorem own : Cert.Chunk.chunkIx (chAt m hO t) (lenAt m hO t) = chAt m hO t := by
  have hch : (chAt m hO t).toNat < 16 := by rw [chk_word]; exact (chk m hO t).isLt
  have hl := g.len (ix1 (bat m hO t))
  rw [len_at] at hl
  exact Cert.Chunk.chunkIx_eq _ _ hch hl ((start_iff _ _ hch).1 h1)

/-- The scores a point computes are those of its chunk. -/
theorem sc_own (R : Fin 64) (i : Fin 2048) :
    sc (chAt m hO t) (lenAt m hO t) (bK m hO c t) (bKs m hO c t) (bd fun i => (argsOf m c).x (ix4 (bat m hO t) 0 (i 1) (i 2))) R i =
      cut ⊥ ((argsOf m c).S (bat m hO t) R) (chk m hO t).val i := by
  have hc := own m hO c t g h1
  rw [sc_bd, cut_at _ _ (chk m hO t).isLt]
  unfold Args.S
  refine if_congr ?_ ?_ rfl
  · rw [valid_iff _ _ (by rw [chk_word]; exact (chk m hO t).isLt), chk_word, len_at]
    exact Iff.rfl
  · rw [bKs_apply m hO c t hc, V4]
    refine congrArg₂ _ (Finset.sum_congr rfl fun d _ => ?_) rfl
    rw [bK_apply m hO c t hc]
    rw [show (⟨64 * (R.val / 8) + d.val, by omega⟩ : Fin 512) = ⟨64 * (Args.kv R).val + d.val, by omega⟩ from rfl, V1]
    rfl

/-- The value scales a point reads are those of its chunk. -/
theorem W_own (R : Fin 64) (i : Fin 2048) : bVs m hO c t (ix3 0 (Args.kv R) i) = cut 0 ((argsOf m c).W (bat m hO t) R) (chk m hO t).val i := by
  rw [cut_at _ _ (chk m hO t).isLt, bVs_apply m hO c t (own m hO c t g h1), V5]
  rfl

/-- The values a point reads are those of its chunk. -/
theorem U_own (h : Fin 8) (d : Fin 64) (i : Fin 2048) : (((bV m hO c t (ix3 0 ⟨64 * h.val + d.val, by omega⟩ i)).toInt : ℝ) : EReal) =
    cut 0 ((argsOf m c).U (bat m hO t) d h) (chk m hO t).val i := by
  rw [cut_at _ _ (chk m hO t).isLt, bV_apply m hO c t (own m hO c t g h1), V3]
  rfl

/-- One point that works on its chunk. -/
theorem take {q : Vec Ideal S2x32x256 .bf16} {mm ll : Vec Ideal S64x128 .f32} {aa : Vec Ideal S512x64 .f32}
    (I : Inv (argsOf m c) (bat m hO t) (chk m hO t).val q mm ll aa) :
    Inv (argsOf m c) (bat m hO t) ((chk m hO t).val + 1) q (stM (chAt m hO t) (lenAt m hO t) (bK m hO c t) (bKs m hO c t) q mm)
      (stL (chAt m hO t) (lenAt m hO t) (bK m hO c t) (bKs m hO c t) q mm ll)
      (stA (chAt m hO t) (lenAt m hO t) (bK m hO c t) (bKs m hO c t) q mm (bV m hO c t) (bVs m hO c t) aa) :=
  inv_take g I _ _ _ _ _ _ (sc_own m hO c t g h1) (W_own m hO c t g h1) (U_own m hO c t g h1)

end Take

/-- One point that leaves its chunk. -/
theorem skip (h1 : ¬cond0_1 (grid0.coords t) (lenAt m hO t)) {q : Vec Ideal S2x32x256 .bf16} {mm ll : Vec Ideal S64x128 .f32} {aa : Vec Ideal S512x64 .f32}
    (I : Inv (argsOf m c) (bat m hO t) (chk m hO t).val q mm ll aa) :
    Inv (argsOf m c) (bat m hO t) ((chk m hO t).val + 1) q mm ll aa :=
  inv_skip I (cut_bot m hO c t h1)

/-- The first point of a batch row begins the buffers. -/
theorem init (h0 : t.val % 16 = 0) :
    Inv (argsOf m c) (bat m hO t) (chk m hO t).val (q0 (bX m hO c t)) (m0 (bX m hO c t) (bKn m hO c t)) (k0_pay2 (F := Ideal)) (k0_pay3 (F := Ideal)) := by
  rw [show (chk m hO t).val = 0 from (coords_val t).2.trans h0]
  exact inv_init _ _ _ _ (bX_fun m hO c t) (bKn_at m hO c t)

/-- The carried buffers after a point. -/
def InvAt : Prop :=
  Inv (argsOf m c) (bat m hO t) ((chk m hO t).val + 1) (outsAt0 m hO c t.val t.isLt).2.1 (outsAt0 m hO c t.val t.isLt).2.2.1
    (outsAt0 m hO c t.val t.isLt).2.2.2.1 (outsAt0 m hO c t.val t.isLt).2.2.2.2

/-- Within a batch row, a point begins where the point before it ended. -/
theorem inv_prev (h0 : ¬t.val % 16 = 0) (I : InvAt m hO c ⟨t.val - 1, Nat.lt_of_le_of_lt (Nat.sub_le _ _) t.isLt⟩) :
    Inv (argsOf m c) (bat m hO t) (chk m hO t).val (outsAt0 m hO c (t.val - 1) (Nat.lt_of_le_of_lt (Nat.sub_le _ _) t.isLt)).2.1
      (outsAt0 m hO c (t.val - 1) (Nat.lt_of_le_of_lt (Nat.sub_le _ _) t.isLt)).2.2.1
      (outsAt0 m hO c (t.val - 1) (Nat.lt_of_le_of_lt (Nat.sub_le _ _) t.isLt)).2.2.2.1
      (outsAt0 m hO c (t.val - 1) (Nat.lt_of_le_of_lt (Nat.sub_le _ _) t.isLt)).2.2.2.2 := by
  have hb : bat m hO ⟨t.val - 1, Nat.lt_of_le_of_lt (Nat.sub_le _ _) t.isLt⟩ = bat m hO t :=
    Fin.ext ((coords_val _).1.trans (Eq.trans (by show (t.val - 1) / 16 = t.val / 16; omega) (coords_val t).1.symm))
  have hk : (chk m hO ⟨t.val - 1, Nat.lt_of_le_of_lt (Nat.sub_le _ _) t.isLt⟩).val + 1 = (chk m hO t).val := by
    have h : (chk m hO ⟨t.val - 1, Nat.lt_of_le_of_lt (Nat.sub_le _ _) t.isLt⟩).val = (t.val - 1) % 16 := (coords_val _).2
    have h' : (chk m hO t).val = t.val % 16 := (coords_val t).2
    omega
  unfold InvAt at I
  rw [hb, hk] at I
  exact I

/-- The carried buffers after every point. -/
theorem inv_all (g : (argsOf m c).Good) : ∀ n (t : Fin (cfgM m hO).N), t.val = n → InvAt m hO c t := by
  intro n
  induction n using Nat.strongRecOn with
  | _ n ih =>
    intro t ht
    unfold InvAt
    by_cases h0 : t.val % 16 = 0
    · have I := init m hO c t h0
      have h2 : ¬t.val % 16 = 15 := by omega
      by_cases h1 : cond0_1 (grid0.coords t) (lenAt m hO t)
      · rw [qA m hO c t h0 h1 h2, mA m hO c t h0 h1 h2, lA m hO c t h0 h1 h2, aA m hO c t h0 h1 h2]
        exact take m hO c t g h1 I
      · rw [qB m hO c t h0 h1 h2, mB m hO c t h0 h1 h2, lB m hO c t h0 h1 h2, aB m hO c t h0 h1 h2]
        exact skip m hO c t h1 I
    · have I := inv_prev m hO c t h0 (ih (t.val - 1) (by omega) _ rfl)
      by_cases h2 : t.val % 16 = 15
      · by_cases h1 : cond0_1 (grid0.coords t) (lenAt m hO t)
        · rw [qE m hO c t h0 h1 h2, mE m hO c t h0 h1 h2, lE m hO c t h0 h1 h2, aE m hO c t h0 h1 h2]
          exact take m hO c t g h1 I
        · rw [qF m hO c t h0 h1 h2, mF m hO c t h0 h1 h2, lF m hO c t h0 h1 h2, aF m hO c t h0 h1 h2]
          exact skip m hO c t h1 I
      · by_cases h1 : cond0_1 (grid0.coords t) (lenAt m hO t)
        · rw [qC m hO c t h0 h1 h2, mC m hO c t h0 h1 h2, lC m hO c t h0 h1 h2, aC m hO c t h0 h1 h2]
          exact take m hO c t g h1 I
        · rw [qD m hO c t h0 h1 h2, mD m hO c t h0 h1 h2, lD m hO c t h0 h1 h2, aD m hO c t h0 h1 h2]
          exact skip m hO c t h1 I

/-- What the last point of a batch row writes. -/
theorem out_at (g : (argsOf m c).Good) (h2 : t.val % 16 = 15) (R d : Fin 64) :
    (outsAt0 m hO c t.val t.isLt).1 (ix3 0 R d) = (argsOf m c).res (bat m hO t) R d := by
  have h0 : ¬t.val % 16 = 0 := by omega
  have I := inv_prev m hO c t h0 (inv_all m hO c g _ _ rfl)
  have hk : (chk m hO t).val + 1 = 16 := by rw [show (chk m hO t).val = t.val % 16 from (coords_val t).2, h2]
  have hx : ∀ R d, bX m hO c t (ix3 0 R d) = (argsOf m c).x (ix4 (bat m hO t) 0 R d) := fun R d => by rw [bX_fun]; rfl
  by_cases h1 : cond0_1 (grid0.coords t) (lenAt m hO t)
  · rw [outE m hO c t h0 h1 h2]
    exact fin_res g (hk ▸ take m hO c t g h1 I) _ _ _ hx (bKn_at m hO c t) (bVn_at m hO c t) R d
  · rw [outF m hO c t h0 h1 h2]
    exact fin_res g (hk ▸ skip m hO c t h1 I) _ _ _ hx (bKn_at m hO c t) (bVn_at m hO c t) R d

end Cert.KernelIdeal.Val

end
-- ==== Proof.Result.lean ====
/- The array that the region leaves, and the program's result. -/
module

public import proofs.«01_k».proof.Proof.Points
public import Idealize.ShloMosaic.Lib.Claim

@[expose] public section

set_option maxRecDepth 16384

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Facts
open Cert.Soft

variable (m : (ℓ : Loc nD τ sig) → Buf (Elt Ideal) ℓ) (hO : Ok m) (c : Dev nD)

/-- A point's output block is its batch row. -/
theorem emb7 (t : Fin (cfgM m hO).N) (R d : Fin 64) : (((cfgM m hO).win 7).blk t).view.emb (ix3 0 R d) = ix3 (bat m hO t) R d := by
  funext a
  refine Fin.ext ?_
  blk_simp
  match a with
  | ⟨0, _⟩ => show (BitVec.ofNat 32 (grid0.coords t 0).val).toNat * 1 + 0 = (bat m hO t).val; rw [bat_word]; omega
  | ⟨1, _⟩ => show 0 * 64 + R.val = R.val; omega
  | ⟨2, _⟩ => show 0 * 64 + d.val = d.val; omega

/-- The array the region leaves: every batch row's result. -/
theorem arr9 (g : (argsOf m c).Good) :
    (dats m hO 0 c).arrAt 7 (cfgM m hO).N = fun i : S16x64x64.Idx => (argsOf m c).res (i 0) (i 1) (i 2) := by
  refine (dats m hO 0 c).arrAt_eq_of_emb 7 _ (fun t hf y => ?_) fun i => ?_
  · have h2 : t.val % 16 = 15 := (flush0_7 (adm m hO) t).1 hf
    have key : ∀ y : S1x64x64.Idx, (outsAt0 m hO c t.val t.isLt).1 y =
        (fun i : S16x64x64.Idx => (argsOf m c).res (i 0) (i 1) (i 2)) ((((cfgM m hO).win 7).blk t).view.emb y) := by
      intro y
      idx_vars y
      rw [show y0 = 0 from Subsingleton.elim _ _, emb7, out_at m hO c t g h2]
      rfl
    have e := congrFun (after0_7 m hO c t)
    exact (e y).trans (key y)
  · revert i
    show ∀ i : S16x64x64.Idx, _
    intro i
    idx_vars i
    have hN : (cfgM m hO).N = 256 := N_0
    refine ⟨⟨16 * i0.val + 15, by rw [hN]; omega⟩, (flush0_7 (adm m hO) _).2 (by show (16 * i0.val + 15) % 16 = 15; omega), ?_⟩
    have e := emb7 m hO ⟨16 * i0.val + 15, by rw [hN]; omega⟩ i1 i2
    rw [show bat m hO ⟨16 * i0.val + 15, by rw [hN]; omega⟩ = i0 from Fin.ext ((coords_val _).1.trans (by show (16 * i0.val + 15) / 16 = i0.val; omega))] at e
    rw [← e]
    exact View.emb_mem_set _ _

/-- The host line after the region reshapes the region's array. -/
theorem tail_apply (V : Valuation τ sig (Elt Ideal)) (b : Fin 16) (R d : Fin 64) :
    StableHlo.after hostOps1 V (Proc.devRef .tc main_v10) (ix4 b 0 R d) = V (Proc.devRef .tc main_v9) (ix3 b R d) := by
  after_results
  pointwise []

/-- The region's array, among the buffers the region leaves. -/
theorem at9 (g : (argsOf m c).Good) :
    withArrays spec0 c (V0 m c) (fun w => (dats m hO 0 c).arrAt w (cfgM m hO).N) (Proc.devRef .tc main_v9) =
      fun i : S16x64x64.Idx => (argsOf m c).res (i 0) (i 1) (i 2) :=
  (Pipeline.withArrays_arr spec0 (by decide) c (V0 m c) (fun w => (dats m hO 0 c).arrAt w (cfgM m hO).N) 7).trans (arr9 m hO c g)

/-- The program's result: the array, reshaped. -/
theorem result (g : (argsOf m c).Good) :
    Pipeline.afterTail pcfgs (fun _ => adm m hO) (dats m hO) 0 (V0 m) [hostOps1] c main_v10 =
      fun i : S16x1x64x64.Idx => (argsOf m c).res (i 0) (i 2) (i 3) := by
  funext i
  idx_vars i
  rw [show i1 = 0 from Subsingleton.elim _ _]
  refine (tail_apply _ i0 i2 i3).trans ?_
  exact congrFun (at9 m hO c g) (ix3 i0 i2 i3)

end Cert.KernelIdeal.Val

end
-- ==== Proof.Ref.lean ====
/- The reference's result at an index. -/
module

public import proofs.«01_k».proof.Proof.Spec
public import proofs.«01_k».proof.Proof.Step
public import proofs.«01_k».proof.Proof.Gen.ReferenceIdeal.Read
public import Idealize.ShloMosaic.Lib.Pointwise

@[expose] public section

set_option maxRecDepth 16384

noncomputable section

namespace Cert.ReferenceIdeal.Val

open Idealize.ShloMosaic Idealize.ShloMosaic.TcCoe Idealize.SL Idealize.SL.Sem
open Cert.ReferenceIdeal Cert.ReferenceIdeal.Gen Cert.ReferenceIdeal.Read
open Cert.Soft
open Cert.KernelIdeal.Val (Args hrow)

variable (a : Args) (b : Fin 16) (h r : Fin 8)

/-- The reference's maximum over the cached positions. -/
theorem max_cached (y : FVec Ideal S16x1x8x8x32768 .f32) :
    Host.reduce FloatOps.maximumf y (val_main_cst_3 (F := Ideal)) reducesTo_S16x1x8x8x32768_S16x1x8x8_d4 h_S_ (ix4 b 0 h r) =
      Finset.univ.fold max ⊥ fun p : Fin 32768 => y (ix5 b 0 h r p) := by
  rw [Host.reduce_eq_fold_single _ _ _ _ (by decide)]
  refine congrArg₂ (fun z f => Finset.univ.fold max z f) Cert.KernelIdeal.Val.neg_inf (funext fun p => ?_)
  exact congrArg y (funext fun a => Fin.ext (by match a with | ⟨0, _⟩ => rfl | ⟨1, _⟩ => rfl | ⟨2, _⟩ => rfl | ⟨3, _⟩ => rfl | ⟨4, _⟩ => rfl))

/-- The reference's maximum over the new token. -/
theorem max_new (y : FVec Ideal S16x1x8x8x1 .f32) :
    Host.reduce FloatOps.maximumf y (val_main_cst_4 (F := Ideal)) reducesTo_S16x1x8x8x1_S16x1x8x8_d4 h_S_ (ix4 b 0 h r) = y (ix5 b 0 h r 0) := by
  rw [Host.reduce_eq_fold_single _ _ _ _ (by decide)]
  refine Eq.trans (congrArg₂ (fun z f => (Finset.univ : Finset (Fin 1)).fold max z f) Cert.KernelIdeal.Val.neg_inf (?_ : _ = fun p : Fin 1 => y (ix5 b 0 h r p))) ?_
  · funext p
    exact congrArg y (funext fun a => Fin.ext (by match a with | ⟨0, _⟩ => rfl | ⟨1, _⟩ => rfl | ⟨2, _⟩ => rfl | ⟨3, _⟩ => rfl | ⟨4, _⟩ => rfl))
  · show (Finset.univ : Finset (Fin 1)).fold max ⊥ _ = _
    rw [show (Finset.univ : Finset (Fin 1)) = {0} from rfl, Finset.fold_singleton]
    exact max_eq_left bot_le

/-- The reference's mask compares the position with the length. -/
theorem lt_iff (p : Fin 32768) (n : BitVec 32) : IntOp.cmpi .slt (BitVec.ofNat 32 p.val) n = 1#1 ↔ (p.val : ℤ) < n.toInt := by
  have e : IntOp.cmpi .slt (BitVec.ofNat 32 p.val) n = BitVec.ofBool ((BitVec.ofNat 32 p.val).slt n) := rfl
  have hp : (BitVec.ofNat 32 p.val).toInt = (p.val : ℤ) := by
    rw [BitVec.toInt_eq_toNat_cond, BitVec.toNat_ofNat]; split <;> omega
  rw [e, ← hp, ← BitVec.slt_iff_toInt_lt]
  cases (BitVec.ofNat 32 p.val).slt n <;> decide

/-- A cached integer, widened and converted, is the integer. -/
theorem sitofp_widen (k : BitVec 8) : FloatOps.sitofp (F := Ideal) FTy.bf16 (BitVec.signExtend 32 k) = ((k.toInt : ℝ) : EReal) := by
  show (((BitVec.signExtend 32 k).toInt : ℝ) : EReal) = _
  rw [BitVec.toInt_signExtend_of_le (by decide)]

/-- The key-value head of a query head in group `h`. -/
theorem kv_hrow : Args.kv (hrow h r) = h := Fin.ext (by show (8 * h.val + r.val) / 8 = h.val; omega)
/-- The two spellings of a query head. -/
theorem row_eq (H : h.val * 8 + r.val < 64) : (⟨h.val * 8 + r.val, H⟩ : Fin 64) = hrow h r := Fin.ext (by show h.val * 8 + r.val = 8 * h.val + r.val; omega)

/-- The reference's masked scores. -/
theorem v18_eq (p : Fin 32768) : val_main_v18 (F := Ideal) a.x a.k a.ks a.len (ix5 b 0 h r p) = a.S b (hrow h r) p := by
  pointwise [val_main_v18, val_main_call0_v0, val_main_call0_v1, val_main_call0_v2, val_main_v10, val_main_v9, val_main_v8, val_main_v7, val_main_v6, val_main_v5, val_main_v4, val_main_v3, val_main_v2, val_main_v1, val_main_v0,
    val_main_cst, val_main_cst_0, val_main_v17, val_main_v16, val_main_v15, val_main_v14, val_main_v13, val_main_v12, val_main_v11]
  rw [Scalar.select]
  unfold Args.S
  rw [kv_hrow]
  refine if_congr (lt_iff p _) (congrArg (· * _) (Finset.sum_congr rfl fun d _ => ?_)) Cert.KernelIdeal.Val.neg_inf
  rw [sitofp_widen, row_eq, mul_comm]

/-- The reference's new score. -/
theorem v29_eq : val_main_v29 (F := Ideal) a.x a.kn (ix5 b 0 h r 0) = a.nw b (hrow h r) := by
  pointwise [val_main_v29, val_main_call1_v0, val_main_call1_v1, val_main_call1_v2, val_main_v28, val_main_v27, val_main_v26, val_main_v25, val_main_v24, val_main_v23, val_main_v22, val_main_v21, val_main_v20, val_main_v19, val_main_v0, val_main_cst_1, val_main_cst_2]
  rw [Scalar.select, if_pos (by decide)]
  unfold Args.nw
  rw [kv_hrow]
  refine congrArg (· * _) (Finset.sum_congr rfl fun d _ => ?_)
  rw [row_eq, mul_comm]

/-- The reference's greatest score. -/
theorem v34_eq : val_main_v34 (F := Ideal) a.x a.kn a.k a.ks a.len (ix5 b 0 h r 0) = a.T b (hrow h r) := by
  have e31 : val_main_v31 (F := Ideal) a.x a.k a.ks a.len (ix5 b 0 h r 0) = val_main_v30 (F := Ideal) a.x a.k a.ks a.len (ix4 b 0 h r) := by
    pointwise [val_main_v31]
  have e33 : val_main_v33 (F := Ideal) a.x a.kn (ix5 b 0 h r 0) = val_main_v32 (F := Ideal) a.x a.kn (ix4 b 0 h r) := by
    pointwise [val_main_v33]
  rw [val_main_v34_apply, e31, e33, val_main_v30, val_main_v32, max_cached, max_new, v29_eq]
  unfold Args.T
  simp only [v18_eq]
  rfl

/-- The reference's exponentials. -/
theorem v37_eq (p : Fin 32768) : val_main_v37 (F := Ideal) a.x a.kn a.k a.ks a.len (ix5 b 0 h r p) = Ideal.exp (a.S b (hrow h r) p - a.T b (hrow h r)) := by
  pointwise [val_main_v37, val_main_v36, val_main_v35]
  rw [v18_eq, v34_eq]

/-- The reference's new exponential. -/
theorem v39_eq : val_main_v39 (F := Ideal) a.x a.kn a.k a.ks a.len (ix5 b 0 h r 0) = Ideal.exp (a.nw b (hrow h r) - a.T b (hrow h r)) := by
  pointwise [val_main_v39, val_main_v38]
  rw [v29_eq, v34_eq]

/-- The reference's sum of exponentials. -/
theorem v40_eq : val_main_v40 (F := Ideal) a.x a.kn a.k a.ks a.len (ix4 b 0 h r) = ∑ p, Ideal.exp (a.S b (hrow h r) p - a.T b (hrow h r)) := by
  rw [val_main_v40_apply]
  refine (congrArg₂ (· + ·) (?_ : _ = (0 : EReal)) (Finset.sum_congr rfl fun p _ => ?_)).trans (zero_add _)
  · pointwise [val_main_cst_5]
  · refine (congrArg _ ?_).trans (v37_eq a b h r p)
    exact funext fun a => Fin.ext (by match a with | ⟨0, _⟩ => rfl | ⟨1, _⟩ => rfl | ⟨2, _⟩ => rfl | ⟨3, _⟩ => rfl | ⟨4, _⟩ => rfl)

/-- The reference's sum over the new token. -/
theorem v42_eq : val_main_v42 (F := Ideal) a.x a.kn a.k a.ks a.len (ix4 b 0 h r) = Ideal.exp (a.nw b (hrow h r) - a.T b (hrow h r)) := by
  rw [val_main_v42_apply, Fin.sum_univ_one]
  refine (congrArg₂ (· + ·) (?_ : _ = (0 : EReal)) ?_).trans (zero_add _)
  · pointwise [val_main_cst_6]
  · refine (congrArg _ ?_).trans (v39_eq a b h r)
    exact funext fun a => Fin.ext (by match a with | ⟨0, _⟩ => rfl | ⟨1, _⟩ => rfl | ⟨2, _⟩ => rfl | ⟨3, _⟩ => rfl | ⟨4, _⟩ => rfl)

/-- The reference's denominator. -/
theorem v44_eq : val_main_v44 (F := Ideal) a.x a.kn a.k a.ks a.len (ix5 b 0 h r 0) = a.D b (hrow h r) := by
  have e41 : val_main_v41 (F := Ideal) a.x a.kn a.k a.ks a.len (ix5 b 0 h r 0) = val_main_v40 (F := Ideal) a.x a.kn a.k a.ks a.len (ix4 b 0 h r) := by
    pointwise [val_main_v41]
  have e43 : val_main_v43 (F := Ideal) a.x a.kn a.k a.ks a.len (ix5 b 0 h r 0) = val_main_v42 (F := Ideal) a.x a.kn a.k a.ks a.len (ix4 b 0 h r) := by
    pointwise [val_main_v43]
  rw [val_main_v44_apply, e41, e43, v40_eq, v42_eq]
  rfl

/-- The reference's scaled weights. -/
theorem v52_eq (p : Fin 32768) : val_main_v52 (F := Ideal) a.x a.kn a.k a.ks a.vs a.len (ix5 b 0 h r p) =
    Ideal.div (Ideal.exp (a.S b (hrow h r) p - a.T b (hrow h r))) (a.D b (hrow h r)) * a.W b (hrow h r) p := by
  pointwise [val_main_v52, val_main_v51, val_main_v50, val_main_v49, val_main_v48, val_main_v46, val_main_v45]
  rw [v37_eq, v44_eq]
  unfold Args.W
  rw [kv_hrow]

/-- The reference's new weight. -/
theorem v57_eq : val_main_v57 (F := Ideal) a.x a.kn a.k a.ks a.len (ix5 b 0 h r 0) =
    Ideal.div (Ideal.exp (a.nw b (hrow h r) - a.T b (hrow h r))) (a.D b (hrow h r)) := by
  pointwise [val_main_v57, val_main_v47]
  rw [v39_eq, v44_eq]

/-- The reference's weighted sum over the cache. -/
theorem v55_eq (d : Fin 64) : val_main_v55 (F := Ideal) a.x a.kn a.k a.ks a.v a.vs a.len (ix5 b h d 0 r) =
    ∑ p, a.U b d h p * (Ideal.div (Ideal.exp (a.S b (hrow h r) p - a.T b (hrow h r))) (a.D b (hrow h r)) * a.W b (hrow h r) p) := by
  rw [val_main_v55_apply]
  refine Finset.sum_congr rfl fun p _ => congrArg₂ _ ?_ ?_
  · have e : lidx_main_v55 (ix5 b h d 0 r) p = ix4 b p h d :=
      funext fun a => Fin.ext (by match a with | ⟨0, _⟩ => rfl | ⟨1, _⟩ => rfl | ⟨2, _⟩ => rfl | ⟨3, _⟩ => rfl)
    rw [e]
    pointwise [val_main_v54, val_main_v53]
    exact sitofp_widen _
  · refine (congrArg _ ?_).trans (v52_eq a b h r p)
    exact funext fun a => Fin.ext (by match a with | ⟨0, _⟩ => rfl | ⟨1, _⟩ => rfl | ⟨2, _⟩ => rfl | ⟨3, _⟩ => rfl | ⟨4, _⟩ => rfl)

/-- The reference's weighted new value. -/
theorem v58_eq (d : Fin 64) : val_main_v58 (F := Ideal) a.x a.kn a.vn a.k a.ks a.len (ix5 b h d 0 r) =
    a.vn (ix4 b 0 h d) * Ideal.div (Ideal.exp (a.nw b (hrow h r) - a.T b (hrow h r))) (a.D b (hrow h r)) := by
  rw [val_main_v58_apply, Fin.sum_univ_one]
  refine congrArg₂ _ (congrArg _ ?_) ((congrArg _ ?_).trans (v57_eq a b h r))
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl | ⟨4, _⟩ => rfl)

/-- The reference's heads before they are laid side by side. -/
theorem v60_eq (d : Fin 64) : val_main_v60 (F := Ideal) a.x a.kn a.vn a.k a.ks a.v a.vs a.len (ix5 b 0 h r d) = a.res b (hrow h r) d := by
  pointwise [val_main_v60, val_main_v59, val_main_v56]
  rw [v55_eq, v58_eq]
  unfold Args.res
  rw [kv_hrow, mul_comm (a.vn (ix4 b 0 h d))]

/-- The last reshape lays the query heads of every group side by side. -/
theorem idx61 (o : Fin 1) (d : Fin 64) : idx_main_v61 (ix4 b o (hrow h r) d) = ix5 b 0 h r d := by
  have h1 : o.val = 0 := by omega
  have e0 : (((b.val * 1 + o.val) * 64 + (8 * h.val + r.val)) * 64 + d.val) / 4096 = b.val := by omega
  have e2 : (((b.val * 1 + o.val) * 64 + (8 * h.val + r.val)) * 64 + d.val) / 512 % 8 = h.val := by omega
  have e3 : (((b.val * 1 + o.val) * 64 + (8 * h.val + r.val)) * 64 + d.val) / 64 % 8 = r.val := by omega
  have e4 : (((b.val * 1 + o.val) * 64 + (8 * h.val + r.val)) * 64 + d.val) % 64 = d.val := by omega
  funext a
  match a with
  | ⟨0, _⟩ => exact Fin.ext e0
  | ⟨1, _⟩ => rfl
  | ⟨2, _⟩ => exact Fin.ext e2
  | ⟨3, _⟩ => exact Fin.ext e3
  | ⟨4, _⟩ => exact Fin.ext e4

/-- The reference's result. -/
theorem v62_eq : val_main_v62 (F := Ideal) a.x a.kn a.vn a.k a.ks a.v a.vs a.len = fun i : S16x1x64x64.Idx => a.res (i 0) (i 2) (i 3) := by
  funext i
  idx_vars i
  obtain ⟨h, r, rfl⟩ := Cert.KernelIdeal.Val.hrow_surj i2
  rw [val_main_v62_apply, val_main_v61_apply, idx61, v60_eq]
  rfl

end Cert.ReferenceIdeal.Val

end
-- ==== Proof.Pre.lean ====
/- What the precondition says of the arguments: the queries, the new key and the key scales are real, and no length
   reaches within one chunk of the largest integer. -/
module

public import proofs.«01_k».proof.Defs
public import proofs.«01_k».proof.Proof.Spec
public import proofs.«01_k».proof.Proof.Points
public import Idealize.ShloMosaic.Lib.Pointwise

@[expose] public section

set_option maxRecDepth 16384

noncomputable section

namespace Cert.KernelIdeal.Val

open Idealize.ShloMosaic Idealize.ShloMosaic.TcCoe Idealize.SL Idealize.SL.Sem

/-- The greatest value of the small format is `⊤`. -/
theorem pos_inf16 : Ideal.ofBits .bf16 0x7F80#16 = ⊤ := by
  simp [Ideal.ofBits, Ideal.ieee]

/-- The greatest value of the wide format is `⊤`. -/
theorem pos_inf32 : Ideal.ofBits .f32 0x7F800000#32 = ⊤ := by
  simp [Ideal.ofBits, Ideal.ieee]

/-- A value whose magnitude is below `⊤` is a real number. -/
theorem real_of_abs (x : EReal) (h : BitVec.ofBool (decide (max x (-x) < ⊤)) = 1#1) : ∃ r : ℝ, x = (r : EReal) := by
  have h1 : max x (-x) < ⊤ := by
    by_contra hn
    rw [decide_eq_false hn] at h
    exact absurd h (by decide)
  have ht : x ≠ ⊤ := fun e => by rw [e] at h1; exact absurd (lt_of_le_of_lt (le_max_left _ _) h1) (lt_irrefl _)
  have hb : x ≠ ⊥ := fun e => by rw [e, EReal.neg_bot] at h1; exact absurd (lt_of_le_of_lt (le_max_right _ _) h1) (lt_irrefl _)
  exact ⟨x.toReal, (EReal.coe_toReal ht hb).symm⟩

/-- The comparison of a length with the largest permitted one. -/
theorem le_of_sle (n k : BitVec 32) (h : IntOp.cmpi .sle n k = 1#1) : n.toInt ≤ k.toInt := by
  have e : IntOp.cmpi .sle n k = BitVec.ofBool (n.sle k) := rfl
  rw [e] at h
  rw [← BitVec.sle_iff_toInt_le]
  revert h
  cases n.sle k <;> decide

/-- The precondition makes the arguments good. -/
theorem good_of_pre [hPre : Cert.Pre_in_range.Facts] (m : (ℓ : Loc Cert.KernelIdeal.nD Cert.KernelIdeal.τ Cert.KernelIdeal.sig) → Buf (Elt Ideal) ℓ)
    (h : Cert.Pre_KernelIdeal_in_range m) (c : Dev Cert.KernelIdeal.nD) : (argsOf m c).Good where
  x i := by
    have e := congrFun (h c).1 i
    refine real_of_abs _ ?_
    rw [← pos_inf16]
    exact e
  kn i := by
    have e := congrFun (h c).2.1 i
    refine real_of_abs _ ?_
    rw [← pos_inf16]
    exact e
  ks i := by
    have e := congrFun (h c).2.2.1 i
    refine real_of_abs _ ?_
    rw [← pos_inf32]
    exact e
  len i := le_of_sle _ _ (congrFun (h c).2.2.2 i)

end Cert.KernelIdeal.Val

end
-- ==== Proof.lean ====
/- The certificate's claims, each proved: the frames of the kernel, of the idealized kernel and of the idealized
   reference, that the idealized kernel is the kernel, and that its result is the reference's. -/
module

public import proofs.«01_k».proof.Defs
public import proofs.«01_k».proof.Proof.OkKernel
public import proofs.«01_k».proof.Proof.OkKernelIdeal
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Result
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem

/-- The shape facts the precondition's program states. -/
theorem pre_facts : Cert.Pre_in_range.Facts where
  bcast_S_S16x1x64x64 := by decide
  bcast_S_S16x1x8x64 := by decide
  bcast_S_S16x32768x8 := by decide
  bcast_S_S16 := by decide

/-- The idealized reference ends with its arguments unchanged and every semaphore counter at zero: it declares no
    semaphore. -/
theorem frame_reference : Cert.quiescent_ReferenceIdeal (hReferenceIdeal := Cert.ReferenceIdeal.Gen.facts) := fun m ρ _ =>
  θ_run_mono (Cert.ReferenceIdeal.Value.run m ρ) fun r h => ⟨fun c => (h c).2, sem_eq_zero_of_no_sems (by decide) r.2⟩

/-- The idealized reference's result is the attention of its arguments. -/
theorem reference_value (a : Cert.KernelIdeal.Val.Args)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = a.x)
    (h1 : m' ((c.tc : Thread Cert.ReferenceIdeal.nD Cert.ReferenceIdeal.τ).loc Cert.ReferenceIdeal.main_arg1) = a.kn)
    (h2 : m' ((c.tc : Thread Cert.ReferenceIdeal.nD Cert.ReferenceIdeal.τ).loc Cert.ReferenceIdeal.main_arg2) = a.vn)
    (h3 : m' ((c.tc : Thread Cert.ReferenceIdeal.nD Cert.ReferenceIdeal.τ).loc Cert.ReferenceIdeal.main_arg3) = a.k)
    (h4 : m' ((c.tc : Thread Cert.ReferenceIdeal.nD Cert.ReferenceIdeal.τ).loc Cert.ReferenceIdeal.main_arg4) = a.ks)
    (h5 : m' ((c.tc : Thread Cert.ReferenceIdeal.nD Cert.ReferenceIdeal.τ).loc Cert.ReferenceIdeal.main_arg5) = a.v)
    (h6 : m' ((c.tc : Thread Cert.ReferenceIdeal.nD Cert.ReferenceIdeal.τ).loc Cert.ReferenceIdeal.main_arg6) = a.vs)
    (h7 : m' ((c.tc : Thread Cert.ReferenceIdeal.nD Cert.ReferenceIdeal.τ).loc Cert.ReferenceIdeal.main_arg7) = a.len) :
    Cert.ReferenceIdeal.Value.res_main_v62 m' c = fun i : Cert.KernelIdeal.S16x1x64x64.Idx => a.res (i 0) (i 2) (i 3) := by
  rw [Cert.ReferenceIdeal.Read.val_main_v62_eq, h0, h1, h2, h3, h4, h5, h6, h7]
  exact Cert.ReferenceIdeal.Val.v62_eq a

/-- From the same arguments, in range, the idealized kernel's result is the idealized reference's. -/
theorem algebraic : Cert.algebraic_KernelIdeal_ReferenceIdeal_pre_in_range (hKernelIdeal := Cert.KernelIdeal.Gen.facts)
    (hReferenceIdeal := Cert.ReferenceIdeal.Gen.facts) (hPre_in_range := pre_facts) := fun m g m' g' hpre hagree =>
  ⟨fun c => fun i : Cert.KernelIdeal.S16x1x64x64.Idx => (Cert.KernelIdeal.Val.argsOf m c).res (i 0) (i 2) (i 3),
    θ_run_mono (θ_run_and (Cert.KernelIdeal.Gen.run_main m g (Cert.KernelIdeal.Side.ok m)) (Cert.KernelIdeal.Gen.unchanged m g (Cert.KernelIdeal.Side.ok m)))
      fun r h c => ⟨((h.1 c).2 Cert.KernelIdeal.main_v10 (by decide : Cert.KernelIdeal.main_v10 ∈ Pipeline.restRefs Cert.KernelIdeal.sig Cert.KernelIdeal.spec0)).trans
        (Cert.KernelIdeal.Val.result m (Cert.KernelIdeal.Side.ok m) c
          (Cert.KernelIdeal.Val.good_of_pre (hPre := pre_facts) m hpre c)), h.2 c⟩,
    θ_run_mono (Cert.ReferenceIdeal.Value.run m' g') fun r h c => ⟨(h c).1.trans (by
      obtain ⟨h0, h1, h2, h3, h4, h5, h6, h7⟩ := hagree c
      exact reference_value (Cert.KernelIdeal.Val.argsOf m c) m' c h0 h1 h2 h3 h4 h5 h6 h7), (h c).2⟩⟩

/-- Every claim of the certificate. -/
theorem claim : Cert.Claim :=
  ⟨Cert.Kernel.Gen.facts, Cert.KernelIdeal.Gen.facts, Cert.ReferenceIdeal.Gen.facts, pre_facts,
    fun m ρ _ => Cert.Kernel.Gen.frame m ρ (Cert.Kernel.Side.ok m),
    fun m ρ _ => Cert.KernelIdeal.Gen.frame m ρ (Cert.KernelIdeal.Side.ok m),
    fun m ρ _ => Cert.KernelIdeal.Gen.frame m ρ (Cert.KernelIdeal.Side.ok m),
    frame_reference,
    fun m ρ _ => frame_reference m ρ trivial,
    trivial,
    algebraic⟩

end Cert.Proof

end
